-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed_KernelIdeal [hPre_well_posed_KernelIdeal : Cert.Pre_well_posed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed_ReferenceIdeal [hPre_well_posed_ReferenceIdeal : Cert.Pre_well_posed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed_KernelIdeal [hKernelIdeal : Cert.KernelIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed_ReferenceIdeal [hReferenceIdeal : Cert.ReferenceIdeal.Facts] [hPre_well_posed_ReferenceIdeal : Cert.Pre_well_posed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_well_posed_KernelIdeal [hKernelIdeal : Cert.KernelIdeal.Facts] [hReferenceIdeal : Cert.ReferenceIdeal.Facts] [hPre_well_posed_KernelIdeal : Cert.Pre_well_posed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![64, 16, 8, 64]⟩ ⟨4, ![256, 16, 8, 64]⟩ (Layout.meshBlock [2, 4, 4] ![[1], [], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![64, 16, 8, 64]⟩ ⟨4, ![256, 16, 8, 64]⟩ (Layout.meshBlock [2, 4, 4] ![[1], [], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v35) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_posed_KernelIdeal : Cert.Pre_well_posed_KernelIdeal.Facts) (hPre_well_posed_ReferenceIdeal : Cert.Pre_well_posed_ReferenceIdeal.Facts),
    quiescent_Kernel (hKernel := hKernel)
    ∧ quiescent_KernelIdeal (hKernelIdeal := hKernelIdeal)
    ∧ quiescent_KernelIdeal_pre_well_posed_KernelIdeal (hKernelIdeal := hKernelIdeal) (hPre_well_posed_KernelIdeal := hPre_well_posed_KernelIdeal)
    ∧ quiescent_ReferenceIdeal (hReferenceIdeal := hReferenceIdeal)
    ∧ quiescent_ReferenceIdeal_pre_well_posed_ReferenceIdeal (hReferenceIdeal := hReferenceIdeal) (hPre_well_posed_ReferenceIdeal := hPre_well_posed_ReferenceIdeal)
    ∧ preserves_Kernel_KernelIdeal
    ∧ algebraic_KernelIdeal_ReferenceIdeal_pre_well_posed_KernelIdeal (hKernelIdeal := hKernelIdeal) (hReferenceIdeal := hReferenceIdeal) (hPre_well_posed_KernelIdeal := hPre_well_posed_KernelIdeal)
-- ==== Pre_well_posed_KernelIdeal.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S64x16x8x64 : S_.BroadcastsInDim S64x16x8x64 (![] : Fin 0 → Fin S64x16x8x64.rank)
  reducesTo_S64x16x8x64_S_d0_1_2_3 : S64x16x8x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg4 : IVec S8 32) (main_v13 : IVec S_ 1) (main_v17 : IVec S_ 1) (main_v18 : FVec F S64x16x8x64 .f32) : IVec S_ 1 :=
  let main_cst_3 : FVec F S_ .f32 := constant S_ .f32 0x7F800000#32
  let main_v19 : FVec F S64x16x8x64 .f32 := broadcastInDim S64x16x8x64 ![] bcast_S_S64x16x8x64 main_cst_3
  let main_v20 : IVec S64x16x8x64 1 := cmpf .olt main_v18 main_v19
  let main_c_4 : IVec S_ 1 := constantI S_ 1 1#1
  let main_v21 : IVec S_ 1 := (fun x v => Host.reduce IntOp.andi x v reducesTo_S64x16x8x64_S_d0_1_2_3 h_S_) main_v20 main_c_4
  let main_v22 : IVec S_ 1 := andi main_v17 main_v21
  let main_c_5 : IVec S_ 32 := constantI S_ 32 1#32
  let main_v23 : IVec S8 32 := broadcastInDim S8 ![] bcast_S_S8 main_c_5
  let main_v24 : IVec S8 1 := cmpi .sge main_arg4 main_v23
  let main_c_6 : IVec S_ 1 := constantI S_ 1 1#1
  let main_v25 : IVec S_ 1 := (fun x v => Host.reduce IntOp.andi x v reducesTo_S8_S_d0 h_S_) main_v24 main_c_6
  let main_v26 : IVec S_ 1 := andi main_v13 main_v25
  let main_v27 : IVec S_ 1 := andi main_v22 main_v26
  main_v27

def fn {F : FTy → Type} [FloatOps F] (main_arg0 : FVec F S8x1x8x64 .f32) (main_arg1 : FVec F S64x16x8x64 .f32) (main_arg2 : FVec F S64x16x8x64 .f32) (main_arg3 : IVec S8x64 32) (main_arg4 : IVec S8 32) : IVec S_ 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_v6 : IVec S8x64 1 := noti main_v5
  let main_c : IVec S_ 32 := constantI S_ 32 0#32
  let main_v7 : IVec S8x64 32 := broadcastInDim S8x64 ![] bcast_S_S8x64 main_c
  let main_v8 : IVec S8x64 1 := cmpi .sge main_arg3 main_v7
  let main_c_0 : IVec S_ 32 := constantI S_ 32 256#32
  let main_v9 : IVec S8x64 32 := broadcastInDim S8x64 ![] bcast_S_S8x64 main_c_0
  let main_v10 : IVec S8x64 1 := cmpi .slt main_arg3 main_v9
  let main_v11 : IVec S8x64 1 := andi main_v8 main_v10
  let main_v12 : IVec S8x64 1 := ori main_v6 main_v11
  let main_c_1 : IVec S_ 1 := constantI S_ 1 1#1
  let main_v13 : IVec S_ 1 := (fun x v => Host.reduce IntOp.andi x v reducesTo_S8x64_S_d0_1 h_S_) main_v12 main_c_1
  let main_v14 : FVec F S8x1x8x64 .f32 := Host.absf main_arg0
  let main_cst : FVec F S_ .f32 := constant S_ .f32 0x7F800000#32
  let main_v15 : FVec F S8x1x8x64 .f32 := broadcastInDim S8x1x8x64 ![] bcast_S_S8x1x8x64 main_cst
  let main_v16 : IVec S8x1x8x64 1 := cmpf .olt main_v14 main_v15
  let main_c_2 : IVec S_ 1 := constantI S_ 1 1#1
  let main_v17 : IVec S_ 1 := (fun x v => Host.reduce IntOp.andi x v reducesTo_S8x1x8x64_S_d0_1_2_3 h_S_) main_v16 main_c_2
  let main_v18 : FVec F S64x16x8x64 .f32 := Host.absf main_arg1
  fn_part1 (F := F) main_arg4 main_v13 main_v17 main_v18
-- ==== Pre_well_posed_ReferenceIdeal.lean ====
abbrev S8x1x8x64 : Shape := ⟨4, ![8, 1, 8, 64]⟩
abbrev S256x16x8x64 : Shape := ⟨4, ![256, 16, 8, 64]⟩
abbrev S8x64 : Shape := ⟨2, ![8, 64]⟩
abbrev S8 : Shape := ⟨1, ![8]⟩
abbrev S64 : Shape := ⟨1, ![64]⟩
abbrev S1x64 : Shape := ⟨2, ![1, 64]⟩
abbrev S8x1 : Shape := ⟨2, ![8, 1]⟩
abbrev S_ : Shape := ⟨0, ![]⟩

class Facts : Prop where
  bcast_S64_S1x64_1 : S64.BroadcastsInDim S1x64 (![1] : Fin 1 → Fin S1x64.rank)
  bcast_S8_S8x1_0 : S8.BroadcastsInDim S8x1 (![0] : Fin 1 → Fin S8x1.rank)
  bcast_S1x64_S8x64_0_1 : S1x64.BroadcastsInDim S8x64 (![0, 1] : Fin 2 → Fin S8x64.rank)
  bcast_S8x1_S8x64_0_1 : S8x1.BroadcastsInDim S8x64 (![0, 1] : Fin 2 → Fin S8x64.rank)
  bcast_S_S8x64 : S_.BroadcastsInDim S8x64 (![] : Fin 0 → Fin S8x64.rank)
  reducesTo_S8x64_S_d0_1 : S8x64.ReducesTo [0, 1] S_
  h_S_ : 0 < S_.numel
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  bcast_S_S256x16x8x64 : S_.BroadcastsInDim S256x16x8x64 (![] : Fin 0 → Fin S256x16x8x64.rank)
  reducesTo_S256x16x8x64_S_d0_1_2_3 : S256x16x8x64.ReducesTo [0, 1, 2, 3] S_
  bcast_S_S8 : S_.BroadcastsInDim S8 (![] : Fin 0 → Fin S8.rank)
  reducesTo_S8_S_d0 : S8.ReducesTo [0] S_

variable [Facts]

def fn_part1 {F : FTy → Type} [FloatOps F] (main_arg4 : IVec S8 32) (main_v13 : IVec S_ 1) (main_v17 : IVec S_ 1) (main_v18 : FVec F S256x16x8x64 .f32) : IVec S_ 1 :=
  let main_cst_3 : FVec F S_ .f32 := constant S_ .f32 0x7F800000#32
  let main_v19 : FVec F S256x16x8x64 .f32 := broadcastInDim S256x16x8x64 ![] bcast_S_S256x16x8x64 main_cst_3
  let main_v20 : IVec S256x16x8x64 1 := cmpf .olt main_v18 main_v19
  let main_c_4 : IVec S_ 1 := constantI S_ 1 1#1
  let main_v21 : IVec S_ 1 := (fun x v => Host.reduce IntOp.andi x v reducesTo_S256x16x8x64_S_d0_1_2_3 h_S_) main_v20 main_c_4
  let main_v22 : IVec S_ 1 := andi main_v17 main_v21
  let main_c_5 : IVec S_ 32 := constantI S_ 32 1#32
  let main_v23 : IVec S8 32 := broadcastInDim S8 ![] bcast_S_S8 main_c_5
  let main_v24 : IVec S8 1 := cmpi .sge main_arg4 main_v23
  let main_c_6 : IVec S_ 1 := constantI S_ 1 1#1
  let main_v25 : IVec S_ 1 := (fun x v => Host.reduce IntOp.andi x v reducesTo_S8_S_d0 h_S_) main_v24 main_c_6
  let main_v26 : IVec S_ 1 := andi main_v13 main_v25
  let main_v27 : IVec S_ 1 := andi main_v22 main_v26
  main_v27

def fn {F : FTy → Type} [FloatOps F] (main_arg0 : FVec F S8x1x8x64 .f32) (main_arg1 : FVec F S256x16x8x64 .f32) (main_arg2 : FVec F S256x16x8x64 .f32) (main_arg3 : IVec S8x64 32) (main_arg4 : IVec S8 32) : IVec S_ 1 :=
  let main_v0 : IVec S64 32 := iotaInDim S64 32 0
  let main_v1 : IVec S1x64 32 := broadcastInDim S1x64 ![1] bcast_S64_S1x64_1 main_v0
  let main_v2 : IVec S8x1 32 := broadcastInDim S8x1 ![0] bcast_S8_S8x1_0 main_arg4
  let main_v3 : IVec S8x64 32 := broadcastInDim S8x64 ![0, 1] bcast_S1x64_S8x64_0_1 main_v1
  let main_v4 : IVec S8x64 32 := broadcastInDim S8x64 ![0, 1] bcast_S8x1_S8x64_0_1 main_v2
  let main_v5 : IVec S8x64 1 := cmpi .slt main_v3 main_v4
  let main_v6 : IVec S8x64 1 := noti main_v5
  let main_c : IVec S_ 32 := constantI S_ 32 0#32
  let main_v7 : IVec S8x64 32 := broadcastInDim S8x64 ![] bcast_S_S8x64 main_c
  let main_v8 : IVec S8x64 1 := cmpi .sge main_arg3 main_v7
  let main_c_0 : IVec S_ 32 := constantI S_ 32 256#32
  let main_v9 : IVec S8x64 32 := broadcastInDim S8x64 ![] bcast_S_S8x64 main_c_0
  let main_v10 : IVec S8x64 1 := cmpi .slt main_arg3 main_v9
  let main_v11 : IVec S8x64 1 := andi main_v8 main_v10
  let main_v12 : IVec S8x64 1 := ori main_v6 main_v11
  let main_c_1 : IVec S_ 1 := constantI S_ 1 1#1
  let main_v13 : IVec S_ 1 := (fun x v => Host.reduce IntOp.andi x v reducesTo_S8x64_S_d0_1 h_S_) main_v12 main_c_1
  let main_v14 : FVec F S8x1x8x64 .f32 := Host.absf main_arg0
  let main_cst : FVec F S_ .f32 := constant S_ .f32 0x7F800000#32
  let main_v15 : FVec F S8x1x8x64 .f32 := broadcastInDim S8x1x8x64 ![] bcast_S_S8x1x8x64 main_cst
  let main_v16 : IVec S8x1x8x64 1 := cmpf .olt main_v14 main_v15
  let main_c_2 : IVec S_ 1 := constantI S_ 1 1#1
  let main_v17 : IVec S_ 1 := (fun x v => Host.reduce IntOp.andi x v reducesTo_S8x1x8x64_S_d0_1_2_3 h_S_) main_v16 main_c_2
  let main_v18 : FVec F S256x16x8x64 .f32 := Host.absf main_arg1
  fn_part1 (F := F) main_arg4 main_v13 main_v17 main_v18
-- ==== Kernel.lean ====
abbrev S8x1x8x64 : Shape := ⟨4, ![8, 1, 8, 64]⟩
abbrev S64x16x8x64 : Shape := ⟨4, ![64, 16, 8, 64]⟩
abbrev S8x64 : Shape := ⟨2, ![8, 64]⟩
abbrev S8 : Shape := ⟨1, ![8]⟩
abbrev S4x10x8x64 : Shape := ⟨4, ![4, 10, 8, 64]⟩
abbrev S3 : Shape := ⟨1, ![3]⟩
abbrev S_ : Shape := ⟨0, ![]⟩
abbrev S8x1 : Shape := ⟨2, ![8, 1]⟩
abbrev S8x64x64 : Shape := ⟨3, ![8, 64, 64]⟩
abbrev S8x64x1 : Shape := ⟨3, ![8, 64, 1]⟩
abbrev S8x64x16 : Shape := ⟨3, ![8, 64, 16]⟩
abbrev S8x1024 : Shape := ⟨2, ![8, 1024]⟩
abbrev S1024x512 : Shape := ⟨2, ![1024, 512]⟩
abbrev S8x8x64 : Shape := ⟨3, ![8, 8, 64]⟩
abbrev S8x8x8x64 : Shape := ⟨4, ![8, 8, 8, 64]⟩
abbrev S8x8x1x64 : Shape := ⟨4, ![8, 8, 1, 64]⟩
abbrev S64x512 : Shape := ⟨2, ![64, 512]⟩
abbrev S64x1024 : Shape := ⟨2, ![64, 1024]⟩
abbrev S8x1x1024 : Shape := ⟨3, ![8, 1, 1024]⟩
abbrev S8x8x1024 : Shape := ⟨3, ![8, 8, 1024]⟩
abbrev S64 : Shape := ⟨1, ![64]⟩
abbrev S64x1 : Shape := ⟨2, ![64, 1]⟩
abbrev S8x1x64 : Shape := ⟨3, ![8, 1, 64]⟩
abbrev S1x1x8x64 : Shape := ⟨4, ![1, 1, 8, 64]⟩
abbrev S8x8 : Shape := ⟨2, ![8, 8]⟩
abbrev S1x1x8x8 : Shape := ⟨4, ![1, 1, 8, 8]⟩
abbrev S1 : Shape := ⟨1, ![1]⟩
abbrev S1x10x8x64 : Shape := ⟨4, ![1, 10, 8, 64]⟩
abbrev S10x8x64 : Shape := ⟨3, ![10, 8, 64]⟩
abbrev S8x1x1x64 : Shape := ⟨4, ![8, 1, 1, 64]⟩

abbrev nBuf : Space → Nat
  | .hbm => 6
  | .vmem => 7
  | .smem => 0
  | _ => 0

abbrev bufTy : (tb : Table) → Fin (tcTables nBuf tb) → BufTy
  | .hbm, ⟨0, _⟩ => ⟨S8x1x8x64, .f32⟩
  | .hbm, ⟨1, _⟩ => ⟨S64x16x8x64, .f32⟩
  | .hbm, ⟨2, _⟩ => ⟨S64x16x8x64, .f32⟩
  | .hbm, ⟨3, _⟩ => ⟨S8x64, .i32⟩
  | .hbm, ⟨4, _⟩ => ⟨S8, .i32⟩
  | .hbm, ⟨5, _⟩ => ⟨S8x1x8x64, .f32⟩
  | .local _ .vmem, ⟨0, _⟩ => ⟨S8x1x8x64, .f32⟩
  | .local _ .vmem, ⟨1, _⟩ => ⟨S64x16x8x64, .f32⟩
  | .local _ .vmem, ⟨2, _⟩ => ⟨S64x16x8x64, .f32⟩
  | .local _ .vmem, ⟨3, _⟩ => ⟨S8x64, .i32⟩
  | .local _ .vmem, ⟨4, _⟩ => ⟨S8, .i32⟩
  | .local _ .vmem, ⟨5, _⟩ => ⟨S8x1x8x64, .f32⟩
  | .local _ .vmem, ⟨6, _⟩ => ⟨S4x10x8x64, .f32⟩
  | _, _ => ⟨S8x1x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_9 : BitVec 32 := 16#32
  let v22 : BitVec 32 := Scalar.muli v2 c16_i32_9
  let v23 : BitVec 32 := Scalar.addi c0_i32_10 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v11 : BitVec 32 := Scalar.addi v5 c1_i32_2
  let c4_i32_3 : BitVec 32 := 4#32
  let c0_i32 : BitVec 32 := 0#32
  let v12 : BitVec 1 := Scalar.cmpi .eq c4_i32_3 c0_i32
  let c1_i32_4 : BitVec 32 := 1#32
  let v13 : BitVec 32 := Scalar.select v12 c1_i32_4 c4_i32_3
  let v14 : BitVec 32 := Scalar.remsi v11 v13
  let c0_i32_6 : BitVec 32 := 0#32
  let v16 : BitVec 1 := Scalar.cmpi .slt v14 c0_i32_6
  let c0_i32_7 : BitVec 32 := 0#32
  let v17 : BitVec 1 := Scalar.cmpi .slt v13 c0_i32_7
  let v18 : BitVec 1 := Scalar.xori v16 v17
  let c0_i32_5 : BitVec 32 := 0#32
  let v15 : BitVec 1 := Scalar.cmpi .ne v14 c0_i32_5
  let v19 : BitVec 1 := Scalar.andi v18 v15
  let v20 : BitVec 32 := Scalar.addi v14 v13
  let v21 : BitVec 32 := Scalar.select v19 v20 v14
  let c4_i32_11 : BitVec 32 := 4#32
  let v24 : BitVec 32 := Scalar.muli v21 c4_i32_11
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v26 : BitVec 32 := Scalar.muli v8 c1_i32_12
  let v27 : BitVec 32 := Scalar.addi v25 v26
  v27.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v39 : BitVec 32 := Scalar.muli v2 c16_i32_21
  let v40 : BitVec 32 := Scalar.addi c0_i32_22 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_13 : BitVec 32 := 2#32
  let v28 : BitVec 32 := Scalar.addi v5 c2_i32_13
  let c4_i32_14 : BitVec 32 := 4#32
  let c0_i32_15 : BitVec 32 := 0#32
  let v29 : BitVec 1 := Scalar.cmpi .eq c4_i32_14 c0_i32_15
  let c1_i32_16 : BitVec 32 := 1#32
  let v30 : BitVec 32 := Scalar.select v29 c1_i32_16 c4_i32_14
  let v31 : BitVec 32 := Scalar.remsi v28 v30
  let c0_i32_18 : BitVec 32 := 0#32
  let v33 : BitVec 1 := Scalar.cmpi .slt v31 c0_i32_18
  let c0_i32_19 : BitVec 32 := 0#32
  let v34 : BitVec 1 := Scalar.cmpi .slt v30 c0_i32_19
  let v35 : BitVec 1 := Scalar.xori v33 v34
  let c0_i32_17 : BitVec 32 := 0#32
  let v32 : BitVec 1 := Scalar.cmpi .ne v31 c0_i32_17
  let v36 : BitVec 1 := Scalar.andi v35 v32
  let v37 : BitVec 32 := Scalar.addi v31 v30
  let v38 : BitVec 32 := Scalar.select v36 v37 v31
  let c4_i32_23 : BitVec 32 := 4#32
  let v41 : BitVec 32 := Scalar.muli v38 c4_i32_23
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v43 : BitVec 32 := Scalar.muli v8 c1_i32_24
  let v44 : BitVec 32 := Scalar.addi v42 v43
  v44.toNat
def k0_dev3 (d0 : Dev nD) : Nat :=
  let c0_i32_33 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_32 : BitVec 32 := 16#32
  let v56 : BitVec 32 := Scalar.muli v2 c16_i32_32
  let v57 : BitVec 32 := Scalar.addi c0_i32_33 v56
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v45 : BitVec 32 := Scalar.addi v5 c3_i32
  let c4_i32_25 : BitVec 32 := 4#32
  let c0_i32_26 : BitVec 32 := 0#32
  let v46 : BitVec 1 := Scalar.cmpi .eq c4_i32_25 c0_i32_26
  let c1_i32_27 : BitVec 32 := 1#32
  let v47 : BitVec 32 := Scalar.select v46 c1_i32_27 c4_i32_25
  let v48 : BitVec 32 := Scalar.remsi v45 v47
  let c0_i32_29 : BitVec 32 := 0#32
  let v50 : BitVec 1 := Scalar.cmpi .slt v48 c0_i32_29
  let c0_i32_30 : BitVec 32 := 0#32
  let v51 : BitVec 1 := Scalar.cmpi .slt v47 c0_i32_30
  let v52 : BitVec 1 := Scalar.xori v50 v51
  let c0_i32_28 : BitVec 32 := 0#32
  let v49 : BitVec 1 := Scalar.cmpi .ne v48 c0_i32_28
  let v53 : BitVec 1 := Scalar.andi v52 v49
  let v54 : BitVec 32 := Scalar.addi v48 v47
  let v55 : BitVec 32 := Scalar.select v53 v54 v48
  let c4_i32_34 : BitVec 32 := 4#32
  let v58 : BitVec 32 := Scalar.muli v55 c4_i32_34
  let v59 : BitVec 32 := Scalar.addi v57 v58
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v60 : BitVec 32 := Scalar.muli v8 c1_i32_35
  let v61 : BitVec 32 := Scalar.addi v59 v60
  v61.toNat
def k0_off1 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v135 : Index := Scalar.indexCast v5
  let c0_61 : Index := 0#32
  let c0_62 : Index := 0#32
  let c0_63 : Index := 0#32
  ![v135.toNat, 0, 0, 0]
def k0_off2 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v141 : Index := Scalar.indexCast v5
  let c1 : Index := 1#32
  let c0_64 : Index := 0#32
  let c0_65 : Index := 0#32
  ![v141.toNat, 1, 0, 0]
def k0_off3 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v147 : Index := Scalar.indexCast v5
  let c2 : Index := 2#32
  let c0_66 : Index := 0#32
  let c0_67 : Index := 0#32
  ![v147.toNat, 2, 0, 0]
def k0_off4 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v153 : Index := Scalar.indexCast v5
  let c3 : Index := 3#32
  let c0_68 : Index := 0#32
  let c0_69 : Index := 0#32
  ![v153.toNat, 3, 0, 0]
def k0_off5 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v159 : Index := Scalar.indexCast v5
  let c4 : Index := 4#32
  let c0_70 : Index := 0#32
  let c0_71 : Index := 0#32
  ![v159.toNat, 4, 0, 0]
def k0_off6 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v165 : Index := Scalar.indexCast v5
  let c5 : Index := 5#32
  let c0_72 : Index := 0#32
  let c0_73 : Index := 0#32
  ![v165.toNat, 5, 0, 0]
def k0_off7 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v171 : Index := Scalar.indexCast v5
  let c6 : Index := 6#32
  let c0_74 : Index := 0#32
  let c0_75 : Index := 0#32
  ![v171.toNat, 6, 0, 0]
def k0_off8 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v177 : Index := Scalar.indexCast v5
  let c7 : Index := 7#32
  let c0_76 : Index := 0#32
  let c0_77 : Index := 0#32
  ![v177.toNat, 7, 0, 0]
def k0_off9 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v182 : Index := Scalar.indexCast v5
  let c8 : Index := 8#32
  let c0_78 : Index := 0#32
  let c0_79 : Index := 0#32
  ![v182.toNat, 8, 0, 0]
def k0_off10 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v187 : Index := Scalar.indexCast v5
  let c9 : Index := 9#32
  let c0_80 : Index := 0#32
  let c0_81 : Index := 0#32
  ![v187.toNat, 9, 0, 0]
def k0_off11 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_96 : BitVec 32 := 0#32
  let c0_i32_97 : BitVec 32 := 0#32
  let c0_i32_98 : BitVec 32 := 0#32
  ![v5.toNat, 0, 0, 0]
def k0_dev4 (d0 : Dev nD) : Nat :=
  let c0_i32_93 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_92 : BitVec 32 := 16#32
  let v202 : BitVec 32 := Scalar.muli v2 c16_i32_92
  let v203 : BitVec 32 := Scalar.addi c0_i32_93 v202
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_83 : BitVec 32 := 1#32
  let v191 : BitVec 32 := Scalar.addi v5 c1_i32_83
  let c4_i32_84 : BitVec 32 := 4#32
  let c0_i32_85 : BitVec 32 := 0#32
  let v192 : BitVec 1 := Scalar.cmpi .eq c4_i32_84 c0_i32_85
  let c1_i32_86 : BitVec 32 := 1#32
  let v193 : BitVec 32 := Scalar.select v192 c1_i32_86 c4_i32_84
  let v194 : BitVec 32 := Scalar.remsi v191 v193
  let c0_i32_88 : BitVec 32 := 0#32
  let v196 : BitVec 1 := Scalar.cmpi .slt v194 c0_i32_88
  let c0_i32_89 : BitVec 32 := 0#32
  let v197 : BitVec 1 := Scalar.cmpi .slt v193 c0_i32_89
  let v198 : BitVec 1 := Scalar.xori v196 v197
  let c0_i32_87 : BitVec 32 := 0#32
  let v195 : BitVec 1 := Scalar.cmpi .ne v194 c0_i32_87
  let v199 : BitVec 1 := Scalar.andi v198 v195
  let v200 : BitVec 32 := Scalar.addi v194 v193
  let v201 : BitVec 32 := Scalar.select v199 v200 v194
  let c4_i32_94 : BitVec 32 := 4#32
  let v204 : BitVec 32 := Scalar.muli v201 c4_i32_94
  let v205 : BitVec 32 := Scalar.addi v203 v204
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v206 : BitVec 32 := Scalar.muli v8 c1_i32_95
  let v207 : BitVec 32 := Scalar.addi v205 v206
  v207.toNat
def k0_dev5 (d0 : Dev nD) : Nat :=
  let c0_i32_112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_111 : BitVec 32 := 16#32
  let v227 : BitVec 32 := Scalar.muli v2 c16_i32_111
  let v228 : BitVec 32 := Scalar.addi c0_i32_112 v227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_102 : BitVec 32 := 2#32
  let v216 : BitVec 32 := Scalar.addi v5 c2_i32_102
  let c4_i32_103 : BitVec 32 := 4#32
  let c0_i32_104 : BitVec 32 := 0#32
  let v217 : BitVec 1 := Scalar.cmpi .eq c4_i32_103 c0_i32_104
  let c1_i32_105 : BitVec 32 := 1#32
  let v218 : BitVec 32 := Scalar.select v217 c1_i32_105 c4_i32_103
  let v219 : BitVec 32 := Scalar.remsi v216 v218
  let c0_i32_107 : BitVec 32 := 0#32
  let v221 : BitVec 1 := Scalar.cmpi .slt v219 c0_i32_107
  let c0_i32_108 : BitVec 32 := 0#32
  let v222 : BitVec 1 := Scalar.cmpi .slt v218 c0_i32_108
  let v223 : BitVec 1 := Scalar.xori v221 v222
  let c0_i32_106 : BitVec 32 := 0#32
  let v220 : BitVec 1 := Scalar.cmpi .ne v219 c0_i32_106
  let v224 : BitVec 1 := Scalar.andi v223 v220
  let v225 : BitVec 32 := Scalar.addi v219 v218
  let v226 : BitVec 32 := Scalar.select v224 v225 v219
  let c4_i32_113 : BitVec 32 := 4#32
  let v229 : BitVec 32 := Scalar.muli v226 c4_i32_113
  let v230 : BitVec 32 := Scalar.addi v228 v229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v231 : BitVec 32 := Scalar.muli v8 c1_i32_114
  let v232 : BitVec 32 := Scalar.addi v230 v231
  v232.toNat
def k0_dev6 (d0 : Dev nD) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_130 : BitVec 32 := 16#32
  let v252 : BitVec 32 := Scalar.muli v2 c16_i32_130
  let v253 : BitVec 32 := Scalar.addi c0_i32_131 v252
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_121 : BitVec 32 := 3#32
  let v241 : BitVec 32 := Scalar.addi v5 c3_i32_121
  let c4_i32_122 : BitVec 32 := 4#32
  let c0_i32_123 : BitVec 32 := 0#32
  let v242 : BitVec 1 := Scalar.cmpi .eq c4_i32_122 c0_i32_123
  let c1_i32_124 : BitVec 32 := 1#32
  let v243 : BitVec 32 := Scalar.select v242 c1_i32_124 c4_i32_122
  let v244 : BitVec 32 := Scalar.remsi v241 v243
  let c0_i32_126 : BitVec 32 := 0#32
  let v246 : BitVec 1 := Scalar.cmpi .slt v244 c0_i32_126
  let c0_i32_127 : BitVec 32 := 0#32
  let v247 : BitVec 1 := Scalar.cmpi .slt v243 c0_i32_127
  let v248 : BitVec 1 := Scalar.xori v246 v247
  let c0_i32_125 : BitVec 32 := 0#32
  let v245 : BitVec 1 := Scalar.cmpi .ne v244 c0_i32_125
  let v249 : BitVec 1 := Scalar.andi v248 v245
  let v250 : BitVec 32 := Scalar.addi v244 v243
  let v251 : BitVec 32 := Scalar.select v249 v250 v244
  let c4_i32_132 : BitVec 32 := 4#32
  let v254 : BitVec 32 := Scalar.muli v251 c4_i32_132
  let v255 : BitVec 32 := Scalar.addi v253 v254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v256 : BitVec 32 := Scalar.muli v8 c1_i32_133
  let v257 : BitVec 32 := Scalar.addi v255 v256
  v257.toNat
abbrev stage0_0 : Fin 1 → Memref sig .tc .vmem S8x1x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x16x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x16x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x64 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8x1x8x64 : Shape := ⟨4, ![8, 1, 8, 64]⟩
abbrev S256x16x8x64 : Shape := ⟨4, ![256, 16, 8, 64]⟩
abbrev S8x64 : Shape := ⟨2, ![8, 64]⟩
abbrev S8 : Shape := ⟨1, ![8]⟩
abbrev S_ : Shape := ⟨0, ![]⟩
abbrev S8x64x1 : Shape := ⟨3, ![8, 64, 1]⟩
abbrev S8x64x16x8x64 : Shape := ⟨5, ![8, 64, 16, 8, 64]⟩
abbrev S8x8x1x64x16 : Shape := ⟨5, ![8, 8, 1, 64, 16]⟩
abbrev S64 : Shape := ⟨1, ![64]⟩
abbrev S1x64 : Shape := ⟨2, ![1, 64]⟩
abbrev S8x1 : Shape := ⟨2, ![8, 1]⟩
abbrev S8x1x1x64x1 : Shape := ⟨5, ![8, 1, 1, 64, 1]⟩
abbrev S8x8x1 : Shape := ⟨3, ![8, 8, 1]⟩
abbrev S8x8x1x1x1 : Shape := ⟨5, ![8, 8, 1, 1, 1]⟩
abbrev S8x8x64x1 : Shape := ⟨4, ![8, 8, 64, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x1x8x64, .f32⟩
  | .hbm, ⟨1, _⟩ => ⟨S256x16x8x64, .f32⟩
  | .hbm, ⟨2, _⟩ => ⟨S256x16x8x64, .f32⟩
  | .hbm, ⟨3, _⟩ => ⟨S8x64, .i32⟩
  | .hbm, ⟨4, _⟩ => ⟨S8, .i32⟩
  | .hbm, ⟨5, _⟩ => ⟨S_, .i32⟩
  | .hbm, ⟨6, _⟩ => ⟨S8x64, .i32⟩
  | .hbm, ⟨7, _⟩ => ⟨S8x64, .i1⟩
  | .hbm, ⟨8, _⟩ => ⟨S_, .i32⟩
  | .hbm, ⟨9, _⟩ => ⟨S8x64, .i32⟩
  | .hbm, ⟨10, _⟩ => ⟨S8x64, .i32⟩
  | .hbm, ⟨11, _⟩ => ⟨S8x64, .i32⟩
  | .hbm, ⟨12, _⟩ => ⟨S8x64x1, .i32⟩
  | .hbm, ⟨13, _⟩ => ⟨S8x64x16x8x64, .f32⟩
  | .hbm, ⟨14, _⟩ => ⟨S_, .i32⟩
  | .hbm, ⟨15, _⟩ => ⟨S8x64, .i32⟩
  | .hbm, ⟨16, _⟩ => ⟨S8x64, .i1⟩
  | .hbm, ⟨17, _⟩ => ⟨S_, .i32⟩
  | .hbm, ⟨18, _⟩ => ⟨S8x64, .i32⟩
  | .hbm, ⟨19, _⟩ => ⟨S8x64, .i32⟩
  | .hbm, ⟨20, _⟩ => ⟨S8x64, .i32⟩
  | .hbm, ⟨21, _⟩ => ⟨S8x64x1, .i32⟩
  | .hbm, ⟨22, _⟩ => ⟨S8x64x16x8x64, .f32⟩
  | .hbm, ⟨23, _⟩ => ⟨S8x8x1x64x16, .f32⟩
  | .hbm, ⟨24, _⟩ => ⟨S_, .f32⟩
  | .hbm, ⟨25, _⟩ => ⟨S8x8x1x64x16, .f32⟩
  | .hbm, ⟨26, _⟩ => ⟨S8x8x1x64x16, .f32⟩
  | .hbm, ⟨27, _⟩ => ⟨S64, .i32⟩
  | .hbm, ⟨28, _⟩ => ⟨S1x64, .i32⟩
  | .hbm, ⟨29, _⟩ => ⟨S8x1, .i32⟩
  | .hbm, ⟨30, _⟩ => ⟨S8x64, .i32⟩
  | .hbm, ⟨31, _⟩ => ⟨S8x64, .i32⟩
  | .hbm, ⟨32, _⟩ => ⟨S8x64, .i1⟩
  | .hbm, ⟨33, _⟩ => ⟨S8x1x1x64x1, .i1⟩
  | .hbm, ⟨34, _⟩ => ⟨S_, .f32⟩
  | .hbm, ⟨35, _⟩ => ⟨S_, .f32⟩
  | .hbm, ⟨36, _⟩ => ⟨S8x8x1x64x16, .i1⟩
  | .hbm, ⟨37, _⟩ => ⟨S8x8x1x64x16, .f32⟩
  | .hbm, ⟨38, _⟩ => ⟨S8x8x1x64x16, .f32⟩
  | .hbm, ⟨39, _⟩ => ⟨S_, .f32⟩
  | .hbm, ⟨40, _⟩ => ⟨S8x8x1, .f32⟩
  | .hbm, ⟨41, _⟩ => ⟨S8x8x1x1x1, .f32⟩
  | .hbm, ⟨42, _⟩ => ⟨S8x8x1x64x16, .f32⟩
  | .hbm, ⟨43, _⟩ => ⟨S8x8x1x64x16, .f32⟩
  | .hbm, ⟨44, _⟩ => ⟨S8x8x1x64x16, .f32⟩
  | .hbm, ⟨45, _⟩ => ⟨S_, .f32⟩
  | .hbm, ⟨46, _⟩ => ⟨S8x8x1, .f32⟩
  | .hbm, ⟨47, _⟩ => ⟨S8x8x1x1x1, .f32⟩
  | .hbm, ⟨48, _⟩ => ⟨S8x8x1x64x16, .f32⟩
  | .hbm, ⟨49, _⟩ => ⟨S8x8x1x64x16, .f32⟩
  | .hbm, ⟨50, _⟩ => ⟨S8x8x64x1, .f32⟩
  | .hbm, ⟨51, _⟩ => ⟨S8x1x8x64, .f32⟩
  | _, _ => ⟨S8x1x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩

abbrev nD : Nat := 1
abbrev τ : Topo := Topo.v7x

variable {F : FTy → Type} [FloatOps F]
-- ==== Proof.Mesh.lean ====
/-
The mesh of `test_k`: 32 devices numbered `16·x + 4·y + z`. The kernel talks only along `y`, so a device meets the
three others of its column (same `x`, same `z`). This module names those neighbours, shows that the device numbers and
buffer offsets the kernel computes are these, and cuts the exchange buffer into its four slots.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.PagedAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Columns of the mesh -/

/-- A device's `y` coordinate: the number of the slot it fills. -/
def yc (c : Dev nD) : Fin 4 := ⟨c.val / 4 % 4, Nat.mod_lt _ (by decide)⟩

/-- The device of `c`'s column at `y = s`. -/
def col (c : Dev nD) (s : Fin 4) : Dev nD := ⟨c.val / 16 * 16 + s.val * 4 + c.val % 4, by
  have hc : c.val < 32 := c.isLt
  have := s.isLt; change _ < 32; omega⟩

/-- The device `k + 1` places further along `y`, the column closed to a ring. -/
def nbr (k : Fin 3) (c : Dev nD) : Dev nD := ⟨c.val / 16 * 16 + (c.val / 4 + k.val + 1) % 4 * 4 + c.val % 4, by
  have := c.isLt; change c.val < 32 at this; change _ < 32; omega⟩

/-- The number of the step that undoes step `k`. -/
def back (k : Fin 3) : Fin 3 := ⟨2 - k.val, by omega⟩

theorem back_back (k : Fin 3) : back (back k) = k := by revert k; decide
theorem nbr_back (k : Fin 3) (c : Dev nD) : nbr (back k) (nbr k c) = c := by
  revert c; revert k; decide +kernel
theorem nbr_back' (k : Fin 3) (c : Dev nD) : nbr k (nbr (back k) c) = c := by
  revert c; revert k; decide +kernel
theorem col_nbr (k : Fin 3) (c : Dev nD) (s : Fin 4) : col (nbr k c) s = col c s := by
  revert s; revert c; revert k; decide +kernel
theorem col_yc (c : Dev nD) : col c (yc c) = c := by revert c; decide +kernel
theorem yc_col (c : Dev nD) (s : Fin 4) : yc (col c s) = s := by revert s; revert c; decide +kernel
theorem col_yc_nbr (k : Fin 3) (c : Dev nD) : col c (yc (nbr k c)) = nbr k c := by
  rw [← col_nbr k c]; exact col_yc _
theorem yc_nbr_ne (k : Fin 3) (c : Dev nD) : yc (nbr k c) ≠ yc c := by revert c; revert k; decide +kernel
theorem yc_nbr_inj (c : Dev nD) (k j : Fin 3) (h : k ≠ j) : yc (nbr k c) ≠ yc (nbr j c) := by
  revert h; revert j; revert k; revert c; decide +kernel

/-- Step `k` as a permutation of the devices. -/
def turn (k : Fin 3) : Dev nD ≃ Dev nD := ⟨nbr k, nbr (back k), nbr_back k, nbr_back' k⟩

/-- Every slot number of a column is the device's own or one of its three neighbours'. -/
theorem slots_cover (c : Dev nD) : (Finset.univ : Finset (Fin 4)) = {yc c, yc (nbr 0 c), yc (nbr 1 c), yc (nbr 2 c)} := by
  revert c; decide +kernel

theorem dev1_eq (c : Dev nD) : (⟨k0_dev1 c, k0_dev1_lt c⟩ : Dev nD) = nbr 0 c := by revert c; decide +kernel
theorem dev2_eq (c : Dev nD) : (⟨k0_dev2 c, k0_dev2_lt c⟩ : Dev nD) = nbr 1 c := by revert c; decide +kernel
theorem dev3_eq (c : Dev nD) : (⟨k0_dev3 c, k0_dev3_lt c⟩ : Dev nD) = nbr 2 c := by revert c; decide +kernel
theorem dev4_eq (c : Dev nD) : (⟨k0_dev4 c, k0_dev4_lt c⟩ : Dev nD) = nbr 0 c := by revert c; decide +kernel
theorem dev5_eq (c : Dev nD) : (⟨k0_dev5 c, k0_dev5_lt c⟩ : Dev nD) = nbr 1 c := by revert c; decide +kernel
theorem dev6_eq (c : Dev nD) : (⟨k0_dev6 c, k0_dev6_lt c⟩ : Dev nD) = nbr 2 c := by revert c; decide +kernel

/-! ## The exchange buffer and its slots -/

/-- The exchange buffer: four slots (by `y`) of ten rows. -/
abbrev xM : Memref sig .tc .vmem S4x10x8x64 .f32 := Memref.whole cc0_scratch0

/-- The slot the device `d` fills, as the kernel's transfers name it (on the sender and on the receiver alike). -/
abbrev slotM (d : Dev nD) : Memref sig .tc .vmem S10x8x64 .f32 :=
  (xM.slice (Rect.unit (s := S4x10x8x64) (k0_off11 d) S1x10x8x64.size (k0_off11_inb d)) (fun _ => rfl)).squeeze S10x8x64 squeezes_S1x10x8x64_S10x8x64

/-- The elements of slot `s`. -/
def slotSet (s : Fin 4) : Finset S4x10x8x64.Idx := Finset.univ.filter fun i => (i (0 : Fin 4)).val = s.val

theorem mem_slotSet (s : Fin 4) (i : S4x10x8x64.Idx) : i ∈ slotSet s ↔ (i (0 : Fin 4)).val = s.val := by
  unfold slotSet; rw [Finset.mem_filter]; exact ⟨fun h => h.2, fun h => ⟨Finset.mem_univ _, h⟩⟩

theorem slotM_set (d : Dev nD) : ((slotM d).view.set : Finset S4x10x8x64.Idx) = slotSet (yc d) := by
  refine (View.set_reshape (v := (View.whole cc0_scratch0).slice (Rect.unit (s := S4x10x8x64) (k0_off11 d) S1x10x8x64.size (k0_off11_inb d))) _).trans ?_
  refine (View.set_slice_whole cc0_scratch0 _).trans ?_
  ext i
  rw [mem_slotSet]
  rw [Rect.mem_set_unit]
  have h := k0_off11_eq d
  constructor
  · intro hi
    have h0 := hi (0 : Fin 4)
    rw [h] at h0
    change d.val / 4 % 4 ≤ (i (0 : Fin 4)).val ∧ (i (0 : Fin 4)).val < d.val / 4 % 4 + 1 at h0
    show (i (0 : Fin 4)).val = d.val / 4 % 4
    omega
  · intro hi a
    rw [h]
    change (i (0 : Fin 4)).val = d.val / 4 % 4 at hi
    fin_cases a
    · show d.val / 4 % 4 ≤ (i (0 : Fin 4)).val ∧ (i (0 : Fin 4)).val < d.val / 4 % 4 + 1
      omega
    · have hk : (i (1 : Fin 4)).val < 0 + 10 := lt_of_lt_of_eq (i (1 : Fin 4)).isLt rfl
      exact ⟨Nat.zero_le _, hk⟩
    · have hk : (i (2 : Fin 4)).val < 0 + 8 := lt_of_lt_of_eq (i (2 : Fin 4)).isLt rfl
      exact ⟨Nat.zero_le _, hk⟩
    · have hk : (i (3 : Fin 4)).val < 0 + 64 := lt_of_lt_of_eq (i (3 : Fin 4)).isLt rfl
      exact ⟨Nat.zero_le _, hk⟩

theorem slotSet_disjoint {s t : Fin 4} (h : s ≠ t) : Disjoint (slotSet s) (slotSet t) :=
  Finset.disjoint_left.mpr fun i hs ht => h (Fin.ext (((mem_slotSet s i).mp hs).symm.trans ((mem_slotSet t i).mp ht)))

theorem slotSet_cover : (Finset.univ : Finset (Fin 4)).biUnion slotSet = Finset.univ := by
  ext i
  refine ⟨fun _ => Finset.mem_univ _, fun _ => Finset.mem_biUnion.mpr ⟨⟨(i (0 : Fin 4)).val, (i (0 : Fin 4)).isLt⟩, Finset.mem_univ _, (mem_slotSet _ i).mpr rfl⟩⟩

/-! ## The rows of a slot -/

theorem inb_out (s : Fin 4) (h : Fin 8) : ∀ a, (![s.val, h.val, 0, 0] : Fin 4 → Nat) a + S1x1x8x64.size a ≤ S4x10x8x64.size a := by
  revert h; revert s; decide +kernel
theorem inb_stat (s : Fin 4) (j : Fin 2) : ∀ a, (![s.val, 8 + j.val, 0, 0] : Fin 4 → Nat) a + S1x1x8x8.size a ≤ S4x10x8x64.size a := by
  revert j; revert s; decide +kernel

/-- Row `h` of slot `s`: head `h`'s unnormalised output. -/
abbrev rOut (s : Fin 4) (h : Fin 8) : Rect S4x10x8x64 := Rect.unit (s := S4x10x8x64) ![s.val, h.val, 0, 0] S1x1x8x64.size (inb_out s h)
/-- Rows 8 and 9 of slot `s`, their first eight columns: the running maximum and the running sum. -/
abbrev rStat (s : Fin 4) (j : Fin 2) : Rect S4x10x8x64 := Rect.unit (s := S4x10x8x64) ![s.val, 8 + j.val, 0, 0] S1x1x8x8.size (inb_stat s j)

theorem rOut_sub (s : Fin 4) (h : Fin 8) : (rOut s h).set ⊆ slotSet s := fun i hi => by
  rw [mem_slotSet]
  have h0 := (Rect.mem_set_unit.mp hi) (0 : Fin 4)
  change s.val ≤ (i (0 : Fin 4)).val ∧ (i (0 : Fin 4)).val < s.val + 1 at h0
  omega
theorem rStat_sub (s : Fin 4) (j : Fin 2) : (rStat s j).set ⊆ slotSet s := fun i hi => by
  rw [mem_slotSet]
  have h0 := (Rect.mem_set_unit.mp hi) (0 : Fin 4)
  change s.val ≤ (i (0 : Fin 4)).val ∧ (i (0 : Fin 4)).val < s.val + 1 at h0
  omega

theorem whole_setOn (r : Rect S4x10x8x64) : ((xM.view.setOn r.set : Finset _) : Finset S4x10x8x64.Idx) = r.set := by
  exact (View.set_slice (v := xM.view) r).symm.trans (View.set_slice_whole cc0_scratch0 r)

theorem rOut_within (s : Fin 4) (h : Fin 8) : ((xM.view.setOn (rOut s h).toLoadRect.set : Finset _) : Finset S4x10x8x64.Idx) ⊆ slotSet s :=
  (whole_setOn (rOut s h)).subset.trans (rOut_sub s h)
theorem rStat_within (s : Fin 4) (j : Fin 2) : ((xM.view.setOn (rStat s j).toLoadRect.set : Finset _) : Finset S4x10x8x64.Idx) ⊆ slotSet s :=
  (whole_setOn (rStat s j)).subset.trans (rStat_sub s j)

/-- What row `h` of slot `s` holds in contents `f`. -/
abbrev getOut (s : Fin 4) (h : Fin 8) (f : S4x10x8x64.Idx → Elt F .f32) : Vec F S1x1x8x64 .f32 := xM.view.readAt (Elt F) (rOut s h).toLoadRect f
abbrev getStat (s : Fin 4) (j : Fin 2) (f : S4x10x8x64.Idx → Elt F .f32) : Vec F S1x1x8x8 .f32 := xM.view.readAt (Elt F) (rStat s j).toLoadRect f
/-- Contents `f` with row `h` of slot `s` rewritten. -/
abbrev putOut (s : Fin 4) (h : Fin 8) (f : S4x10x8x64.Idx → Elt F .f32) (w : Vec F S1x1x8x64 .f32) : S4x10x8x64.Idx → Elt F .f32 :=
  (xM.access (rOut s h) : View sig .tc _ _ _).write (Elt F) f w Finset.univ
abbrev putStat (s : Fin 4) (j : Fin 2) (f : S4x10x8x64.Idx → Elt F .f32) (w : Vec F S1x1x8x8 .f32) : S4x10x8x64.Idx → Elt F .f32 :=
  (xM.access (rStat s j) : View sig .tc _ _ _).write (Elt F) f w Finset.univ

omit [FloatOps F] in
theorem getOut_putOut (s : Fin 4) (h : Fin 8) (f : S4x10x8x64.Idx → Elt F .f32) (w : Vec F S1x1x8x64 .f32) : getOut s h (putOut s h f w) = w :=
  View.read_write_univ (v := (xM.access (rOut s h) : View sig .tc _ _ _)) f w
omit [FloatOps F] in
theorem getStat_putStat (s : Fin 4) (j : Fin 2) (f : S4x10x8x64.Idx → Elt F .f32) (w : Vec F S1x1x8x8 .f32) : getStat s j (putStat s j f w) = w :=
  View.read_write_univ (v := (xM.access (rStat s j) : View sig .tc _ _ _)) f w

/-- Rectangles of the exchange buffer at different rows: neither touches the other. -/
theorem rows_disjoint {r r' : Rect S4x10x8x64} (h : Disjoint r.set r'.set) :
    Disjoint (xM.view.slice r).set ((xM.view.slice r').setOn Finset.univ) := by
  change Disjoint (xM.view.slice r).set (xM.view.slice r').set
  rw [View.set_slice, View.set_slice]; exact (Finset.disjoint_map _).mpr h

omit [FloatOps F] in
theorem getOut_putOut_ne (s : Fin 4) {h h' : Fin 8} (hne : h ≠ h') (f : S4x10x8x64.Idx → Elt F .f32) (w : Vec F S1x1x8x64 .f32) :
    getOut s h (putOut s h' f w) = getOut s h f :=
  View.read_slice_write_slice_of_disjoint (v := xM.view) (rOut s h) (rOut s h') f w _
    (rows_disjoint (Rect.unit_disjoint (1 : Fin 4) (by
      show h.val + 1 ≤ h'.val ∨ h'.val + 1 ≤ h.val
      have : h.val ≠ h'.val := fun e => hne (Fin.ext e)
      omega)))
omit [FloatOps F] in
theorem getOut_putStat (s : Fin 4) (h : Fin 8) (j : Fin 2) (f : S4x10x8x64.Idx → Elt F .f32) (w : Vec F S1x1x8x8 .f32) :
    getOut s h (putStat s j f w) = getOut s h f :=
  View.read_slice_write_slice_of_disjoint (v := xM.view) (rOut s h) (rStat s j) f w _
    (rows_disjoint (Rect.unit_disjoint (1 : Fin 4) (Or.inl (by
      show h.val + 1 ≤ 8 + j.val
      have := h.isLt; omega))))
omit [FloatOps F] in
theorem getStat_putStat_ne (s : Fin 4) {j j' : Fin 2} (hne : j ≠ j') (f : S4x10x8x64.Idx → Elt F .f32) (w : Vec F S1x1x8x8 .f32) :
    getStat s j (putStat s j' f w) = getStat s j f :=
  View.read_slice_write_slice_of_disjoint (v := xM.view) (rStat s j) (rStat s j') f w _
    (rows_disjoint (Rect.unit_disjoint (1 : Fin 4) (by
      show 8 + j.val + 1 ≤ 8 + j'.val ∨ 8 + j'.val + 1 ≤ 8 + j.val
      have : j.val ≠ j'.val := fun e => hne (Fin.ext e)
      omega)))

omit [FloatOps F] in
theorem getOut_congr (s : Fin 4) (h : Fin 8) {f g : S4x10x8x64.Idx → Elt F .f32} (hfg : ∀ i ∈ slotSet s, f i = g i) : getOut s h f = getOut s h g :=
  View.readAt_congr (v := xM.view) fun i hi => hfg i (rOut_within s h hi)
omit [FloatOps F] in
theorem getStat_congr (s : Fin 4) (j : Fin 2) {f g : S4x10x8x64.Idx → Elt F .f32} (hfg : ∀ i ∈ slotSet s, f i = g i) : getStat s j f = getStat s j g :=
  View.readAt_congr (v := xM.view) fun i hi => hfg i (rStat_within s j hi)

omit [FloatOps F] in
/-- A transfer of slot `d` puts the source's elements there. -/
theorem slot_land (d : Dev nD) (fd fs : S4x10x8x64.Idx → Elt F .f32) :
    ∀ i ∈ slotSet (yc d), (slotM d).view.write (Elt F) fd ((slotM d).view.read (Elt F) fs) Finset.univ i = fs i := fun i hi => by
  have h := View.write_read_eq_piecewise (v := (slotM d).view) (Val := Elt F) fd fs Finset.univ
  have hs : (slotM d).view.setOn Finset.univ = slotSet (yc d) := slotM_set d
  rw [h]
  exact Finset.piecewise_eq_of_mem _ _ _ (by rw [hs]; exact hi)

end Cert.PagedAttn

end
-- ==== Proof.Values.lean ====
/-
The values the kernel computes: what a device writes to its own slot from its own operands, and how the four slots of a
column are combined into the result. Everything here is stated over any float operations.
-/
module

public import proofs.«01_k».proof.Proof.Mesh

@[expose] public section

noncomputable section

namespace Cert.PagedAttn

open Cert.KernelIdeal Cert.KernelIdeal.Gen

open Idealize.ShloMosaic
open Idealize.ShloMosaic.TcCoe

variable {F : FTy → Type} [FloatOps F]

variable (m : (ℓ : Loc nD τ sig) → Buf (Elt F) ℓ)

/-! ## The operands a device holds -/

def qIn (c : Dev nD) : Vec F S8x1x8x64 .f32 := (win0_0.blk (0 : Fin 1)).view.read (Elt F) (m ((c : Thread nD τ).loc main_arg0))
def kIn (c : Dev nD) : Vec F S64x16x8x64 .f32 := (win0_1.blk (0 : Fin 1)).view.read (Elt F) (m ((c : Thread nD τ).loc main_arg1))
def vIn (c : Dev nD) : Vec F S64x16x8x64 .f32 := (win0_2.blk (0 : Fin 1)).view.read (Elt F) (m ((c : Thread nD τ).loc main_arg2))
def btIn (c : Dev nD) : Vec F S8x64 .i32 := (win0_3.blk (0 : Fin 1)).view.read (Elt F) (m ((c : Thread nD τ).loc main_arg3))
def lenIn (c : Dev nD) : Vec F S8 .i32 := (win0_4.blk (0 : Fin 1)).view.read (Elt F) (m ((c : Thread nD τ).loc main_arg4))

/-! ## A device's own share of the work -/

/-- A device's `y` coordinate and its first page, as the kernel computes them. -/
def yWord (c : Dev nD) : BitVec 32 := Scalar.remsi (Scalar.divsi (Dev.word c) 4#32) 4#32
def baseWord (c : Dev nD) : BitVec 32 := Scalar.muli (yWord c) 64#32

/-- How often each of the device's tokens is attended to. -/
def cnt (c : Dev nD) : FVec F S8x1024 .f32 := k0_pay3 (baseWord c) (k0_pay1 (btIn m c)) (k0_pay2 (lenIn m c))
def vRows (c : Dev nD) : FVec F S1024x512 .f32 := k0_pay4 (vIn m c)
/-- The scaled scores. -/
def score (c : Dev nD) : FVec F S64x1024 .f32 := k0_pay6 (kIn m c) (qIn m c)
/-- Which scores count. -/
def live (c : Dev nD) : IVec S64x1024 1 := k0_pay7 (F := F) (baseWord c) (k0_pay1 (btIn m c)) (k0_pay2 (lenIn m c))
/-- All heads' unnormalised outputs. -/
def acc (c : Dev nD) : FVec F S8x8x64 .f32 := k0_pay11 (cnt m c) (vRows m c) k0_pay5 (score m c) (live m c)

/-- Row `h < 8` of the device's slot. -/
def rowO (c : Dev nD) : Fin 8 → Vec F S1x1x8x64 .f32
  | 0 => k0_pay12 (cnt m c) (vRows m c) k0_pay5 (score m c) (live m c)
  | 1 => k0_pay13 (cnt m c) (vRows m c) k0_pay5 (score m c) (live m c)
  | 2 => k0_pay14 (cnt m c) (vRows m c) k0_pay5 (score m c) (live m c)
  | 3 => k0_pay16 (k0_pay15 (cnt m c) (vRows m c) k0_pay5 (score m c) (live m c))
  | 4 => k0_pay17 (acc m c)
  | 5 => k0_pay18 (acc m c)
  | 6 => k0_pay19 (acc m c)
  | 7 => k0_pay20 (acc m c)
/-- Rows 8 and 9 of the device's slot: the maximum and the sum. -/
def rowS (c : Dev nD) : Fin 2 → Vec F S1x1x8x8 .f32
  | 0 => k0_pay21 (k0_pay8 (score m c) (live m c))
  | 1 => k0_pay23 (k0_pay22 (k0_pay10 (cnt m c) (score m c) (live m c)))

/-- Contents of an exchange buffer whose slot `yc p` holds what device `p` writes there. -/
def Good (p : Dev nD) (f : S4x10x8x64.Idx → Elt F .f32) : Prop :=
  (∀ h, getOut (yc p) h f = rowO m p h) ∧ ∀ j, getStat (yc p) j f = rowS m p j

theorem Good.congr {p : Dev nD} {f g : S4x10x8x64.Idx → Elt F .f32} (h : Good m p f) (hfg : ∀ i ∈ slotSet (yc p), f i = g i) : Good m p g :=
  ⟨fun r => (getOut_congr _ r hfg).symm.trans (h.1 r), fun j => (getStat_congr _ j hfg).symm.trans (h.2 j)⟩

/-! ## Combining a column's slots -/

section Combine
variable (mm ll : Fin 4 → Vec F S1x1x8x8 .f32) (oo : Fin 4 → Fin 8 → Vec F S1x1x8x64 .f32)

/-- The factor slot `s`'s numbers are rescaled by: `exp` of its maximum less the column's. -/
def scal : Fin 4 → FVec F S8x8 .f32
  | 0 => k0_pay29 (k0_pay24 (mm 0)) (k0_pay25 (mm 1)) (k0_pay26 (mm 2)) (mm 3)
  | 1 => k0_pay30 (k0_pay24 (mm 0)) (k0_pay25 (mm 1)) (k0_pay26 (mm 2)) (mm 3)
  | 2 => k0_pay31 (k0_pay24 (mm 0)) (k0_pay25 (mm 1)) (k0_pay26 (mm 2)) (mm 3)
  | 3 => k0_pay32 (k0_pay24 (mm 0)) (k0_pay25 (mm 1)) (k0_pay26 (mm 2)) (mm 3)

/-- The rescaled sum. -/
def denom : FVec F S8x8 .f32 := k0_pay33 (k0_pay24 (mm 0)) (k0_pay25 (mm 1)) (k0_pay26 (mm 2)) (mm 3) (ll 0) (ll 1) (ll 2) (ll 3)

/-- Head `h`'s block of the result. -/
def outBlk : Fin 8 → FVec F S8x1x1x64 .f32
  | 0 => k0_pay36 (scal mm 2) (scal mm 3) (denom mm ll) (k0_pay34 (k0_pay24 (mm 0)) (k0_pay25 (mm 1)) (k0_pay26 (mm 2)) (mm 3) (oo 0 0))
      (k0_pay35 (k0_pay24 (mm 0)) (k0_pay25 (mm 1)) (k0_pay26 (mm 2)) (mm 3)) (oo 1 0) (oo 2 0) (oo 3 0)
  | 1 => k0_pay39 (scal mm 3) (denom mm ll) (k0_pay37 (scal mm 0) (scal mm 1) (oo 0 1) (oo 1 1)) (k0_pay38 (scal mm 2)) (oo 2 1) (oo 3 1)
  | 2 => k0_pay42 (denom mm ll) (k0_pay40 (scal mm 0) (scal mm 1) (scal mm 2) (oo 0 2) (oo 1 2) (oo 2 2)) (k0_pay41 (scal mm 3)) (oo 3 2)
  | 3 => k0_pay44 (k0_pay43 (scal mm 0) (scal mm 1) (scal mm 2) (scal mm 3) (denom mm ll) (oo 0 3) (oo 1 3) (oo 2 3) (oo 3 3))
  | 4 => k0_pay45 (scal mm 0) (scal mm 1) (scal mm 2) (scal mm 3) (denom mm ll) (oo 0 4) (oo 1 4) (oo 2 4) (oo 3 4)
  | 5 => k0_pay47 (scal mm 1) (scal mm 2) (scal mm 3) (denom mm ll) (k0_pay46 (scal mm 0)) (oo 0 5) (oo 1 5) (oo 2 5) (oo 3 5)
  | 6 => k0_pay50 (scal mm 2) (scal mm 3) (denom mm ll) (k0_pay48 (scal mm 0) (oo 0 6)) (k0_pay49 (scal mm 1)) (oo 1 6) (oo 2 6) (oo 3 6)
  | 7 => k0_pay53 (scal mm 3) (denom mm ll) (k0_pay51 (scal mm 0) (scal mm 1) (oo 0 7) (oo 1 7)) (k0_pay52 (scal mm 2)) (oo 2 7) (oo 3 7)

end Combine

/-- The three row families of `c`'s column, by slot. -/
def colM (c : Dev nD) (s : Fin 4) : Vec F S1x1x8x8 .f32 := rowS m (col c s) 0
def colL (c : Dev nD) (s : Fin 4) : Vec F S1x1x8x8 .f32 := rowS m (col c s) 1
def colO (c : Dev nD) (s : Fin 4) (h : Fin 8) : Vec F S1x1x8x64 .f32 := rowO m (col c s) h

/-- Head `h`'s block of device `c`'s result. -/
def outB (c : Dev nD) (h : Fin 8) : FVec F S8x1x1x64 .f32 := outBlk (colM m c) (colL m c) (colO m c) h

/-! ## The result block is its eight heads -/

theorem inb_head (h : Fin 8) : ∀ a, (![0, 0, h.val, 0] : Fin 4 → Nat) a + S8x1x1x64.size a ≤ S8x1x8x64.size a := by revert h; decide +kernel

/-- Head `h`'s rows of the result block. -/
abbrev rHead (h : Fin 8) : Rect S8x1x8x64 := Rect.unit (s := S8x1x8x64) ![0, 0, h.val, 0] S8x1x1x64.size (inb_head h)

/-- The index of `i` within its head's rows. -/
def inHead (i : S8x1x8x64.Idx) : S8x1x1x64.Idx := fun
  | 0 => i 0
  | 1 => i 1
  | 2 => (0 : Fin 1)
  | 3 => i 3

/-- Device `c`'s result. -/
def outAt (c : Dev nD) : S8x1x8x64.Idx → Elt F .f32 := fun i => outB m c (i 2) (inHead i)

end Cert.PagedAttn

end
-- ==== Proof.Protocol.lean ====
/-
The exchange protocol. Every device tells its three column neighbours that its exchange buffer may be written, waits for
their three words, sends its own slot to each of them, and waits for theirs.

A device has seven cells: its barrier, three send cells (one for each copy it starts) and three receive cells (one for
each copy that lands on it). All of it happens in one round. A barrier carries three duties, one for each neighbour; what
a neighbour pays with is the right to write into its buffer. A send or receive cell carries one duty, the copy's credit:
the receive cell is paid with the slot as the sender filled it, the send cell with the lent part of the sender's own slot.
-/
module

public import proofs.«01_k».proof.Proof.Values

@[expose] public section

noncomputable section

namespace Cert.PagedAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB := URounds (GSem nD τ sig) (Fin 3)
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Cells -/

abbrev barS : Sem sig := (SemArray.scalar (sig.barrier 0 rfl) : Sems sig S_).sem
/-- The send semaphore of copy `k`, and the receive semaphore it completes on. -/
abbrev sndS : Fin 3 → DmaSem sig
  | 0 => ((cc0_scratch1.slice (Rect.unit (s := S3) ![0] S1.size inb_S3_S1_0)).squeeze S_ squeezes_S1_S_).sem
  | 1 => ((cc0_scratch1.slice (Rect.unit (s := S3) ![1] S1.size inb_S3_S1_1)).squeeze S_ squeezes_S1_S_).sem
  | 2 => ((cc0_scratch1.slice (Rect.unit (s := S3) ![2] S1.size inb_S3_S1_2)).squeeze S_ squeezes_S1_S_).sem
abbrev rcvS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem

abbrev barC (c : Dev nD) : GSem nD τ sig := ((c : Thread nD τ), .reg barS)
abbrev sndC (c : Dev nD) (k : Fin 3) : GSem nD τ sig := ((c : Thread nD τ), .dma (sndS k))
abbrev rcvC (c : Dev nD) (k : Fin 3) : GSem nD τ sig := ((c : Thread nD τ), .dma (rcvS k))

/-- The kernel's own six semaphores, and with the barrier all seven. -/
abbrev osem : Fin 6 → SemLoc sig
  | 0 => .dma (sndS 0) | 1 => .dma (sndS 1) | 2 => .dma (sndS 2) | 3 => .dma (rcvS 0) | 4 => .dma (rcvS 1) | 5 => .dma (rcvS 2)
abbrev csem : Fin 7 → SemLoc sig
  | 0 => .reg barS | 1 => .dma (sndS 0) | 2 => .dma (sndS 1) | 3 => .dma (sndS 2) | 4 => .dma (rcvS 0) | 5 => .dma (rcvS 1) | 6 => .dma (rcvS 2)
abbrev kcell (ck : Dev nD × Fin 7) : GSem nD τ sig := ((ck.1 : Thread nD τ), csem ck.2)
/-- Where the send and receive cells stand among the seven. -/
abbrev iS (k : Fin 3) : Fin 7 := ⟨k.val + 1, by omega⟩
abbrev iR (k : Fin 3) : Fin 7 := ⟨k.val + 4, by omega⟩

theorem kcell_S (c : Dev nD) (k : Fin 3) : kcell (c, iS k) = sndC c k := by fin_cases k <;> rfl
theorem kcell_R (c : Dev nD) (k : Fin 3) : kcell (c, iR k) = rcvC c k := by fin_cases k <;> rfl

theorem snd_ne_bar (k : Fin 3) : (SemLoc.dma (sndS k) : SemLoc sig) ≠ .reg barS := fun h => by cases h
theorem rcv_ne_bar (k : Fin 3) : (SemLoc.dma (rcvS k) : SemLoc sig) ≠ .reg barS := fun h => by cases h
theorem snd_ne_rcv : ∀ j k : Fin 3, (SemLoc.dma (sndS j) : SemLoc sig) ≠ .dma (rcvS k) := by decide
theorem rcv_inj : ∀ j k : Fin 3, (SemLoc.dma (rcvS j) : SemLoc sig) = .dma (rcvS k) → j = k := by decide
theorem snd_inj : ∀ j k : Fin 3, (SemLoc.dma (sndS j) : SemLoc sig) = .dma (sndS k) → j = k := by decide

/-- The credit of one slot's copy. -/
abbrev N : ℕ := (slotM (0 : Dev nD)).view.dmaCredit
theorem N_pos : 0 < N := View.dmaCredit_pos _ (by decide)

/-! ## What changes hands -/

/-- Device `p`'s slot `s` at share `q`. -/
def slotPts (p : Dev nD) (s : Fin 4) (q : PosShare TreeShare) (f : S4x10x8x64.Idx → Elt F .f32) : sProp 𝕄 :=
  ((p : Thread nD τ).loc cc0_scratch0) ↦[slotSet s]{q} f

instance slotPts_storable (p : Dev nD) (s) (q) (f) : BI.Storable (upEmb : UEmb _ 𝕄) (slotPts (F := F) p s q f) := by unfold slotPts; infer_instance

/-- The share of its own slot a device keeps while the copies run, and the three it lends them. -/
abbrev kept : PosShare TreeShare := (fullShare : PosShare TreeShare).left
abbrev lent : Fin 3 → PosShare TreeShare
  | 0 => (fullShare : PosShare TreeShare).right.left
  | 1 => (fullShare : PosShare TreeShare).right.right.left
  | 2 => (fullShare : PosShare TreeShare).right.right.right

/-- What the neighbour whose step `k` leads to `c` pays `c`'s barrier with. -/
def barPay (c : Dev nD) (k : Fin 3) : sProp 𝕄 :=
  iprop((∃ f, slotPts (nbr (back k) c) (yc c) fullShare f) ∗ reached ER (rcvC (nbr (back k) c) (back k)) 0)
/-- What copy `k` lands on `c`: the slot its sender filled. -/
def rcvPay (c : Dev nD) (k : Fin 3) : sProp 𝕄 :=
  iprop(∃ f, ⌜Good m (nbr (back k) c) f⌝ ∗ slotPts c (yc (nbr (back k) c)) fullShare f)
/-- What comes back once copy `k` has been read out. -/
def sndPay (c : Dev nD) (k : Fin 3) : sProp 𝕄 := iprop(∃ f, slotPts c (yc c) (lent k) f)

abbrev IsBar (g : GSem nD τ sig) : Prop := g.1.2 = .tc ∧ g.2 = .reg barS
abbrev IsCopy (g : GSem nD τ sig) : Prop := g.1.2 = .tc ∧ ∃ k : Fin 3, g.2 = .dma (sndS k) ∨ g.2 = .dma (rcvS k)

def plan : Rounds.Schedule (GSem nD τ sig) (Fin 3) 𝕄 where
  duties g r := if r = 0 ∧ IsBar g then Finset.univ else if r = 0 ∧ IsCopy g then {0} else ∅
  unitless _ := False
  amount g _ _ := if g.2 = .reg barS then 1 else N
  payload g _ d :=
    if g.2 = .reg barS then barPay g.1.1 d
    else if g.2 = .dma (rcvS 0) then rcvPay m g.1.1 0
    else if g.2 = .dma (rcvS 1) then rcvPay m g.1.1 1
    else if g.2 = .dma (rcvS 2) then rcvPay m g.1.1 2
    else if g.2 = .dma (sndS 0) then sndPay g.1.1 0
    else if g.2 = .dma (sndS 1) then sndPay g.1.1 1
    else if g.2 = .dma (sndS 2) then sndPay g.1.1 2
    else iprop(emp)
  amount_pos g _ _ _ := by
    by_cases h : g.2 = .reg barS
    · rw [if_pos h]; exact Nat.one_pos
    · rw [if_neg h]; exact N_pos

instance plan_payload_storable (g : GSem nD τ sig) (r : ℕ) (d : Fin 3) :
    BI.Storable (upEmb : UEmb _ 𝕄) ((plan (F := F) m).payload g r d) := by
  dsimp only [plan]
  unfold barPay rcvPay sndPay
  (repeat' split) <;> infer_instance

section Sched
variable (c : Dev nD) (k : Fin 3)

theorem not_bar_snd : ¬ IsBar (sndC c k) := fun h => snd_ne_bar k h.2
theorem not_bar_rcv : ¬ IsBar (rcvC c k) := fun h => rcv_ne_bar k h.2

theorem duties_bar : (plan m).duties (barC c) 0 = Finset.univ := by dsimp only [plan]; exact if_pos ⟨rfl, rfl, rfl⟩
theorem duties_snd : (plan m).duties (sndC c k) 0 = {0} := by
  dsimp only [plan]; rw [if_neg (fun h => not_bar_snd c k h.2)]; exact if_pos ⟨rfl, rfl, k, .inl rfl⟩
theorem duties_rcv : (plan m).duties (rcvC c k) 0 = {0} := by
  dsimp only [plan]; rw [if_neg (fun h => not_bar_rcv c k h.2)]; exact if_pos ⟨rfl, rfl, k, .inr rfl⟩
theorem duties_later (g : GSem nD τ sig) : ∀ r, 1 ≤ r → (plan m).duties g r = ∅ :=
  fun r hr => by dsimp only [plan]; rw [if_neg fun h => by omega, if_neg fun h => by omega]

theorem amount_bar (d : Fin 3) : (plan m).amount (barC c) 0 d = 1 := by dsimp only [plan]; exact if_pos rfl
theorem amount_snd (d : Fin 3) : (plan m).amount (sndC c k) 0 d = N := by dsimp only [plan]; exact if_neg (snd_ne_bar k)
theorem amount_rcv (d : Fin 3) : (plan m).amount (rcvC c k) 0 d = N := by dsimp only [plan]; exact if_neg (rcv_ne_bar k)

theorem expect_bar : (plan m).expect (barC c) 0 = 3 := by
  unfold Schedule.expect Schedule.amountOf
  rw [duties_bar, Finset.sum_congr rfl fun d _ => amount_bar m c d]; rfl
theorem expect_snd : (plan m).expect (sndC c k) 0 = N := by
  unfold Schedule.expect Schedule.amountOf; rw [duties_snd, Finset.sum_singleton, amount_snd]
theorem expect_rcv : (plan m).expect (rcvC c k) 0 = N := by
  unfold Schedule.expect Schedule.amountOf; rw [duties_rcv, Finset.sum_singleton, amount_rcv]

theorem payload_bar (d : Fin 3) : (plan m).payload (barC c) 0 d = barPay c d := by dsimp only [plan]; rw [if_pos rfl]
theorem payload_rcv (d : Fin 3) : (plan m).payload (rcvC c k) 0 d = rcvPay m c k := by
  dsimp only [plan]; rw [if_neg (rcv_ne_bar k)]
  fin_cases k
  · exact if_pos rfl
  · exact (if_neg (by decide)).trans (if_pos rfl)
  · exact (if_neg (by decide)).trans ((if_neg (by decide)).trans (if_pos rfl))
theorem payload_snd (d : Fin 3) : (plan m).payload (sndC c k) 0 d = sndPay c k := by
  dsimp only [plan]; rw [if_neg (snd_ne_bar k), if_neg (snd_ne_rcv k 0), if_neg (snd_ne_rcv k 1), if_neg (snd_ne_rcv k 2)]
  fin_cases k
  · exact if_pos rfl
  · exact (if_neg (by decide)).trans (if_pos rfl)
  · exact (if_neg (by decide)).trans ((if_neg (by decide)).trans (if_pos rfl))

/-- What a wait for a cell's whole round brings. -/
theorem rest_bar : bigSep ((plan m).duties (barC c) 0 \ ∅) (fun d => (plan m).payload (barC c) 0 d) = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_snd : bigSep ((plan m).duties (sndC c k) 0 \ ∅) (fun d => (plan m).payload (sndC c k) 0 d) = sndPay c k := by
  rw [Finset.sdiff_empty, duties_snd, bigSep_singleton, payload_snd]
theorem rest_rcv : bigSep ((plan m).duties (rcvC c k) 0 \ ∅) (fun d => (plan m).payload (rcvC c k) 0 d) = rcvPay m c k := by
  rw [Finset.sdiff_empty, duties_rcv, bigSep_singleton, payload_rcv]

end Sched

/-! ## Debts and levels -/

/-- A device owes each neighbour's receive cell a slot's credit and each neighbour's barrier a unit, added up in the
    order the kernel pays: barriers of the neighbours 0, 1, 2, then copies 0, 1, 2. -/
def D3 (c : Dev nD) : CellTallies nD τ sig Unit := tallyAt (rcvC (nbr 2 c) 2) () N
def D2 (c : Dev nD) : CellTallies nD τ sig Unit := D3 c + tallyAt (rcvC (nbr 1 c) 1) () N
def D1 (c : Dev nD) : CellTallies nD τ sig Unit := D2 c + tallyAt (rcvC (nbr 0 c) 0) () N
def B2 (c : Dev nD) : CellTallies nD τ sig Unit := D1 c + tallyAt (barC (nbr 2 c)) () 1
def B1 (c : Dev nD) : CellTallies nD τ sig Unit := B2 c + tallyAt (barC (nbr 1 c)) () 1
def O₀ (c : Dev nD) : CellTallies nD τ sig Unit := B1 c + tallyAt (barC (nbr 0 c)) () 1

def L (g : GSem nD τ sig) : Finset Unit := if g.1.2 = .tc then {()} else ∅
/-- Receive cells stand above barriers, barriers above everything else. -/
def lv (g : GSem nD τ sig) (_ : Unit) : ℕ := if g.2 = .reg barS then 1 else if ∃ k : Fin 3, g.2 = .dma (rcvS k) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barC c) u = 1 := if_pos rfl
theorem lv_rcv (c : Dev nD) (k : Fin 3) (u : Unit) : lv (rcvC c k) u = 2 := (if_neg (rcv_ne_bar k)).trans (if_pos ⟨k, rfl⟩)

theorem D1_pos {c : Dev nD} {g : GSem nD τ sig} {u : Unit} (h : 0 < D1 c g u) : ∃ k : Fin 3, g = rcvC (nbr k c) k := by
  unfold D1 D2 D3 at h
  simp only [Pi.add_apply, Finsupp.add_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ k : Fin 3, g = rcvC (nbr k c) k) ∨ ∃ k : Fin 3, g = barC (nbr k c) := by
  unfold O₀ B1 B2 at h
  rw [Pi.add_apply, Finsupp.add_apply, Pi.add_apply, Finsupp.add_apply, Pi.add_apply, Finsupp.add_apply, tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  simp only [Nat.add_zero] at h
  obtain ⟨k, hk⟩ := D1_pos h
  exact hn.1 k hk

theorem mayWait_stage (c : Dev nD) (q : DmaSem sig) (hq : ∀ k : Fin 3, SemLoc.dma q ≠ .dma (rcvS k)) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨k, rfl⟩ <;> exact Finset.mem_singleton_self _)
      (fun p hp => by
        rw [Finset.mem_singleton.mp hp]; dsimp only [lv]
        rw [if_neg (fun h => by cases h), if_neg (fun ⟨k, h⟩ => hq k h)])
      (fun g u hg => by
        rcases O₀_pos hg with ⟨k, rfl⟩ | ⟨k, rfl⟩
        · rw [lv_rcv]; decide
        · rw [lv_bar]; decide)
  · rw [MayWait_zero]; iintro -; iempintro

/-- At its barrier a device owes copies only. -/
theorem mayWait_bar (c : Dev nD) : (levAts L lv : sProp 𝕄) ⊢ MayWait (c : Thread nD τ) (.reg barS) () (D1 c) :=
  MayOwe.of_cut (L := L) (lev := lv) 1 (fun p hp => by rw [Finset.mem_singleton.mp hp, L_tc]; exact Finset.mem_singleton_self _)
    (fun g u hg => by obtain ⟨k, rfl⟩ := D1_pos hg; exact Finset.mem_singleton_self _)
    (fun p hp => by rw [Finset.mem_singleton.mp hp, lv_bar])
    (fun g u hg => by obtain ⟨k, rfl⟩ := D1_pos hg; rw [lv_rcv]; decide)

/-! ## What a device starts with -/

/-- The cells' invariants under the names `K`, and that every cell has reached its round. -/
def records (K : Dev nD × Fin 7 → ℕ) : sProp 𝕄 :=
  iprop((bigSep Finset.univ fun ck : Dev nD × Fin 7 => cellInv ER (plan m) (K ck) (kcell ck))
    ∗ bigSep Finset.univ fun ck : Dev nD × Fin 7 => reached ER (kcell ck) 0)

instance records_persistent (K : Dev nD × Fin 7 → ℕ) : BI.Persistent (records m K) := by unfold records; infer_instance

theorem inv_at (K : Dev nD × Fin 7 → ℕ) (ck : Dev nD × Fin 7) : records m K ⊢ cellInv ER (plan m) (K ck) (kcell ck) := by
  unfold records
  iintro ⟨H, -⟩
  have h : (bigSep Finset.univ fun ck : Dev nD × Fin 7 => (cellInv ER (plan m) (K ck) (kcell ck) : sProp 𝕄)) ⊢ cellInv ER (plan m) (K ck) (kcell ck) :=
    bigSep_elim (Finset.mem_univ ck)
  iapply h; iexact H
theorem reached_at (K : Dev nD × Fin 7 → ℕ) (ck : Dev nD × Fin 7) : records m K ⊢ reached ER (kcell ck) 0 := by
  unfold records
  iintro ⟨-, H⟩
  have h : (bigSep Finset.univ fun ck : Dev nD × Fin 7 => (reached ER (kcell ck) 0 : sProp 𝕄)) ⊢ reached ER (kcell ck) 0 :=
    bigSep_elim (Finset.mem_univ ck)
  iapply h; iexact H

theorem inv_bar (K : Dev nD × Fin 7 → ℕ) (c : Dev nD) : records m K ⊢ cellInv ER (plan m) (K (c, 0)) (barC c) := inv_at m K (c, 0)
theorem inv_snd (K : Dev nD × Fin 7 → ℕ) (c : Dev nD) (k : Fin 3) : records m K ⊢ cellInv ER (plan m) (K (c, iS k)) (sndC c k) := by
  rw [← kcell_S]; exact inv_at m K (c, iS k)
theorem inv_rcv (K : Dev nD × Fin 7 → ℕ) (c : Dev nD) (k : Fin 3) : records m K ⊢ cellInv ER (plan m) (K (c, iR k)) (rcvC c k) := by
  rw [← kcell_R]; exact inv_at m K (c, iR k)
theorem reached_bar (K : Dev nD × Fin 7 → ℕ) (c : Dev nD) : records m K ⊢ reached ER (barC c) 0 := reached_at m K (c, 0)
theorem reached_snd (K : Dev nD × Fin 7 → ℕ) (c : Dev nD) (k : Fin 3) : records m K ⊢ reached ER (sndC c k) 0 := by
  rw [← kcell_S]; exact reached_at m K (c, iS k)
theorem reached_rcv (K : Dev nD × Fin 7 → ℕ) (c : Dev nD) (k : Fin 3) : records m K ⊢ reached ER (rcvC c k) 0 := by
  rw [← kcell_R]; exact reached_at m K (c, iR k)

/-- The tokens of the duties device `c` pays. -/
def payToks (c : Dev nD) : sProp 𝕄 :=
  iprop((dutyTok ER (barC (nbr 0 c)) 0 0 ∗ dutyTok ER (barC (nbr 1 c)) 0 1 ∗ dutyTok ER (barC (nbr 2 c)) 0 2)
    ∗ (dutyTok ER (sndC c 0) 0 0 ∗ dutyTok ER (sndC c 1) 0 0 ∗ dutyTok ER (sndC c 2) 0 0)
    ∗ (dutyTok ER (rcvC (nbr 0 c) 0) 0 0 ∗ dutyTok ER (rcvC (nbr 1 c) 1) 0 0 ∗ dutyTok ER (rcvC (nbr 2 c) 2) 0 0))

/-- Its positions in its own seven cells. -/
def places (c : Dev nD) : sProp 𝕄 :=
  iprop(atPos ER (barC c) 0 ∅ 0
    ∗ (atPos ER (sndC c 0) 0 ∅ 0 ∗ atPos ER (sndC c 1) 0 ∅ 0 ∗ atPos ER (sndC c 2) 0 ∅ 0)
    ∗ (atPos ER (rcvC c 0) 0 ∅ 0 ∗ atPos ER (rcvC c 1) 0 ∅ 0 ∗ atPos ER (rcvC c 2) 0 ∅ 0))

/-- Its claims on what the others will pay. -/
def credits (c : Dev nD) : sProp 𝕄 :=
  iprop(cred (tallyAt (barC c) () 3) ∗ cred (tallyAt (rcvC c 0) () N) ∗ cred (tallyAt (rcvC c 1) () N) ∗ cred (tallyAt (rcvC c 2) () N))

/-- What device `c`'s body starts from, the scratch buffer apart. -/
def start (c : Dev nD) : sProp 𝕄 :=
  iprop((∃ K, records m K ∗ places c ∗ payToks c) ∗ credits c ∗ levAts L lv)

/-- The seven cells closed. -/
def closed (c : Dev nD) : sProp 𝕄 :=
  iprop(semVal (barC c) 0 ∗ (semVal (sndC c 0) 0 ∗ semVal (sndC c 1) 0 ∗ semVal (sndC c 2) 0)
    ∗ (semVal (rcvC c 0) 0 ∗ semVal (rcvC c 1) 0 ∗ semVal (rcvC c 2) 0))

/-- The exchange buffer whole, at some contents. -/
def bufAny (c : Dev nD) : sProp 𝕄 := iprop(∃ f, ((c : Thread nD τ).loc cc0_scratch0) ↦{fullShare} f)

end Cert.PagedAttn

end
-- ==== Proof.Slots.lean ====
/-
The exchange buffer cut into slots and put together again, the share of a slot lent to the three copies, and one copy as
a rule of its own.
-/
module

public import proofs.«01_k».proof.Proof.Protocol

@[expose] public section

noncomputable section

namespace Cert.PagedAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Over the slots of a column -/

/-- A conjunction over the four slots, by number. -/
theorem slots_num (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- The same by owner: the device's own slot and its three neighbours'. -/
theorem slots_own (c : Dev nD) (Φ : Fin 4 → sProp 𝕄) :
    bigSep Finset.univ Φ = iprop(Φ (yc c) ∗ Φ (yc (nbr 0 c)) ∗ Φ (yc (nbr 1 c)) ∗ Φ (yc (nbr 2 c))) :=
  bigSep_univ_eq_bigSepL [yc c, yc (nbr 0 c), yc (nbr 1 c), yc (nbr 2 c)] (by revert c; decide +kernel) (by revert c; decide +kernel) Φ

theorem buf_slots (c : Dev nD) (f : S4x10x8x64.Idx → Elt F .f32) :
    (((c : Thread nD τ).loc cc0_scratch0) ↦{fullShare} f : sProp 𝕄) = bigSep Finset.univ fun s : Fin 4 => slotPts c s fullShare f := by
  unfold slotPts
  have h := pointsTo_biUnion (Ix := Unit) (Name := ℕ) (U := UU) (Lvl := ℕ) (ℓ := (c : Thread nD τ).loc cc0_scratch0) (q := fullShare) (f := f)
    Finset.univ slotSet (fun s _ t _ h => slotSet_disjoint h)
  rw [slotSet_cover] at h
  exact h

/-- The buffer, cut into the device's own slot and its neighbours'. -/
theorem buf_cut (c : Dev nD) (f : S4x10x8x64.Idx → Elt F .f32) :
    (((c : Thread nD τ).loc cc0_scratch0) ↦{fullShare} f : sProp 𝕄)
      = iprop(slotPts c (yc c) fullShare f ∗ slotPts c (yc (nbr 0 c)) fullShare f ∗ slotPts c (yc (nbr 1 c)) fullShare f ∗ slotPts c (yc (nbr 2 c)) fullShare f) := by
  rw [buf_slots, slots_own c]

/-- Four slots at any contents are the buffer at some contents. -/
theorem buf_join (c : Dev nD) (f : Fin 4 → S4x10x8x64.Idx → Elt F .f32) :
    (bigSep Finset.univ fun s : Fin 4 => slotPts c s fullShare (f s)) ⊢ (bufAny c : sProp 𝕄) := by
  unfold slotPts bufAny
  have h := pointsTo_biUnion_join (Ix := Unit) (Name := ℕ) (U := UU) (Lvl := ℕ) (ℓ := (c : Thread nD τ).loc cc0_scratch0) (q := fullShare) Finset.univ slotSet f (f 0) (fun s _ t _ h => slotSet_disjoint h)
  rw [slotSet_cover] at h
  iintro H
  ihave H := h $$ H
  icases H with ⟨%g, -, H⟩
  iexists g; iexact H

/-! ## Lending -/

/-- The device's own slot: the share kept and the three lent. -/
theorem slot_lend (p : Dev nD) (s : Fin 4) (f : S4x10x8x64.Idx → Elt F .f32) :
    (slotPts p s fullShare f : sProp 𝕄) ⊢ iprop(slotPts p s kept f ∗ slotPts p s (lent 0) f ∗ slotPts p s (lent 1) f ∗ slotPts p s (lent 2) f) := by
  unfold slotPts
  iintro H
  ihave H := (pointsTo_share (PosShare.mem_left_op_right (fullShare : PosShare TreeShare))).1 $$ H
  icases H with ⟨H0, H⟩
  ihave H := (pointsTo_share (PosShare.mem_left_op_right (fullShare : PosShare TreeShare).right)).1 $$ H
  icases H with ⟨H1, H⟩
  ihave H := (pointsTo_share (PosShare.mem_left_op_right (fullShare : PosShare TreeShare).right.right)).1 $$ H
  icases H with ⟨H2, H3⟩
  isplitl [H0]; · iexact H0
  isplitl [H1]; · iexact H1
  isplitl [H2] <;> iassumption

/-- Two shares of a slot hold the same elements, so they make one. -/
theorem slot_rejoin (p : Dev nD) (s : Fin 4) {q q₁ q₂ : PosShare TreeShare} (hq : q ∈ PCS.op q₁ q₂) (f g : S4x10x8x64.Idx → Elt F .f32) :
    iprop(slotPts p s q₁ f ∗ slotPts p s q₂ g) ⊢ (slotPts p s q f : sProp 𝕄) := by
  unfold slotPts
  refine Idealize.SL.BI.Laws.pure_elim (∀ i ∈ slotSet s, f i = g i) ?_ fun h => ?_
  · refine pointsTo_agree.trans (Laws.pure_mono fun h i hi => (h i (Finset.mem_inter.mpr ⟨hi, hi⟩)).1)
  · have e : (((p : Thread nD τ).loc cc0_scratch0) ↦[slotSet s]{q₂} g : sProp 𝕄) = (((p : Thread nD τ).loc cc0_scratch0) ↦[slotSet s]{q₂} f) :=
      pointsTo_congr fun i hi => (h i hi).symm
    rw [e]
    exact (pointsTo_share hq).2

/-- The whole slot again, from the kept share and what the three copies give back. -/
theorem slot_return (p : Dev nD) (f f0 f1 f2 : S4x10x8x64.Idx → Elt F .f32) (s : Fin 4) :
    iprop(slotPts p s kept f ∗ slotPts p s (lent 0) f0 ∗ slotPts p s (lent 1) f1 ∗ slotPts p s (lent 2) f2) ⊢ (slotPts p s fullShare f : sProp 𝕄) := by
  iintro ⟨H, H0, H1, H2⟩
  ihave H12 := (slot_rejoin (F := F) p s (PosShare.mem_left_op_right (fullShare : PosShare TreeShare).right.right) f1 f2) $$ [H1 H2]
  · isplitl [H1] <;> iassumption
  ihave H012 := (slot_rejoin (F := F) p s (PosShare.mem_left_op_right (fullShare : PosShare TreeShare).right) f0 f1) $$ [H0 H12]
  · isplitl [H0] <;> iassumption
  iapply (slot_rejoin (F := F) p s (PosShare.mem_left_op_right (fullShare : PosShare TreeShare)) f f0)
  isplitl [H] <;> iassumption

/-! ## The four slots while they are read -/

/-- Slot `s` on device `c`, holding what its owner wrote: readable. -/
def held (c : Dev nD) (s : Fin 4) : sProp 𝕄 :=
  iprop(∃ f, ⌜Good m (col c s) f⌝ ∗ slotPts c s (if s = yc c then kept else fullShare) f)

def heldAll (c : Dev nD) : sProp 𝕄 := iprop(held m c 0 ∗ held m c 1 ∗ held m c 2 ∗ held m c 3)

theorem held_own (c : Dev nD) : held m c (yc c) = iprop(∃ f, ⌜Good m c f⌝ ∗ slotPts c (yc c) kept f) := by
  unfold held; rw [col_yc]; simp only [if_true]
theorem held_nbr (c : Dev nD) (k : Fin 3) : held m c (yc (nbr k c)) = iprop(∃ f, ⌜Good m (nbr k c) f⌝ ∗ slotPts c (yc (nbr k c)) fullShare f) := by
  unfold held; rw [col_yc_nbr, if_neg (yc_nbr_ne k c)]

/-- The own slot and what the three copies landed are the four slots, ready to be read. -/
theorem held_gather (c : Dev nD) (f : S4x10x8x64.Idx → Elt F .f32) (hf : Good m c f) :
    iprop(slotPts c (yc c) kept f ∗ rcvPay m c 0 ∗ rcvPay m c 1 ∗ rcvPay m c 2) ⊢ heldAll m c := by
  have e : heldAll m c = iprop(held m c (yc c) ∗ held m c (yc (nbr 0 c)) ∗ held m c (yc (nbr 1 c)) ∗ held m c (yc (nbr 2 c))) := by
    unfold heldAll; rw [← slots_num, ← slots_own]
  rw [e, held_own, held_nbr, held_nbr, held_nbr]
  unfold rcvPay
  iintro ⟨H, H0, H1, H2⟩
  isplitl [H]
  · iexists f; isplitr; · (ipureintro; exact hf)
    iexact H
  isplitl [H2]; · iexact H2
  isplitl [H1]; · iexact H1
  iexact H0

/-- After the reads, with the lent shares back, the four slots are the buffer again. -/
theorem held_scatter (c : Dev nD) : iprop(heldAll m c ∗ sndPay c 0 ∗ sndPay c 1 ∗ sndPay c 2) ⊢ (bufAny c : sProp 𝕄) := by
  have e : heldAll m c = iprop(held m c (yc c) ∗ held m c (yc (nbr 0 c)) ∗ held m c (yc (nbr 1 c)) ∗ held m c (yc (nbr 2 c))) := by
    unfold heldAll; rw [← slots_num, ← slots_own]
  rw [e, held_own, held_nbr, held_nbr, held_nbr]
  unfold sndPay
  iintro ⟨⟨⟨%f, -, H⟩, ⟨%g0, -, H0⟩, ⟨%g1, -, H1⟩, ⟨%g2, -, H2⟩⟩, ⟨%f0, S0⟩, ⟨%f1, S1⟩, ⟨%f2, S2⟩⟩
  ihave H := (slot_return (F := F) c f f0 f1 f2 (yc c)) $$ [H S0 S1 S2]
  · isplitl [H]; · iexact H
    isplitl [S0]; · iexact S0
    isplitl [S1] <;> iassumption
  let fs : Fin 4 → S4x10x8x64.Idx → Elt F .f32 := fun s =>
    if s = yc c then f else if s = yc (nbr 0 c) then g0 else if s = yc (nbr 1 c) then g1 else g2
  have e0 : fs (yc c) = f := if_pos rfl
  have e1 : fs (yc (nbr 0 c)) = g0 := (if_neg (yc_nbr_ne 0 c)).trans (if_pos rfl)
  have e2 : fs (yc (nbr 1 c)) = g1 := (if_neg (yc_nbr_ne 1 c)).trans ((if_neg (yc_nbr_inj c 1 0 (by decide))).trans (if_pos rfl))
  have e3 : fs (yc (nbr 2 c)) = g2 :=
    (if_neg (yc_nbr_ne 2 c)).trans ((if_neg (yc_nbr_inj c 2 0 (by decide))).trans (if_neg (yc_nbr_inj c 2 1 (by decide))))
  iapply (buf_join (F := F) c fs)
  rw [slots_own c, e0, e1, e2, e3]
  isplitl [H]; · iexact H
  isplitl [H0]; · iexact H0
  isplitl [H1] <;> iassumption

/-! ## One copy -/

theorem slotM_pts (p d : Dev nD) (q : PosShare TreeShare) (f : S4x10x8x64.Idx → Elt F .f32) :
    ((slotM d).view.loc (p : Thread nD τ) ↦[(slotM d).view.set]{q} f : sProp 𝕄) = slotPts p (yc d) q f := by
  unfold slotPts
  exact congrArg (fun S : Finset S4x10x8x64.Idx => (((p : Thread nD τ).loc cc0_scratch0) ↦[S]{q} f : sProp 𝕄)) (slotM_set d)

/-- Copy `k` of device `c`, to its neighbour `nbr k c`: it takes the lent share of the own slot, the neighbour's slot of
    the same number, and the debt; it leaves a claim on the send cell. -/
theorem wp_copy (K : Dev nD × Fin 7 → ℕ) (c n : Dev nD) (k : Fin 3) (hn : n = nbr k c)
    {hsc : (slotM c : Memref sig (Dev.tc n : Thread nD τ).2.kind .vmem S10x8x64 .f32).view.ref.isScScratch = false}
    {hsrc : (slotM c).view.WordExact} {hdst : (slotM c).view.WordExact}
    {hsem : DmaTarget.Typed .vmem (.dma (rcvS k)) (.remote (Dev.tc n : Thread nD τ) (slotM c) (.dma (sndS k)) hsc)}
    {α : Type} {Q : α → sProp 𝕄} {kt : PUnit → Prog (TpuEff nD τ sig (Elt F) Λ₀ .tc) α}
    (fs fd : S4x10x8x64.Idx → Elt F .f32) (hf : Good m c fs) (O O' : CellTallies nD τ sig Unit) (hO : O = O' + tallyAt (rcvC (nbr k c) k) () N) (W : Waits sig Unit) :
    iprop(records m K ∗ slotPts c (yc c) (lent k) fs ∗ slotPts (nbr k c) (yc c) fullShare fd
        ∗ owes (c : Thread nD τ) O W ∗ dutyTok ER (sndC c k) 0 0 ∗ dutyTok ER (rcvC (nbr k c) k) 0 0)
      ⊢ iprop(((cred (tallyAt (sndC c k) () N) ∗ owes (c : Thread nD τ) O' W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma (slotM c) (.remote (Dev.tc n : Thread nD τ) (slotM c) (.dma (sndS k)) hsc) (.dma (rcvS k)) hsrc hdst hsem) kt) Q) := by
  subst hn
  rw [← slotM_pts c c (lent k) fs, ← slotM_pts (nbr k c) c fullShare fd]
  refine BIBase.Entails.trans ?_ (Rounds.wp_send_pointsTo 𝒱₀ ER (plan m) (c : Thread nD τ) none (κ₁ := K (c, iS k)) (κ₂ := K (nbr k c, iR k))
    (r₁ := 0) (r₂ := 0) (d₁ := 0) (d₂ := 0) (fd := fd)
    (by rw [duties_snd]; exact Finset.mem_singleton_self _) (by rw [duties_rcv]; exact Finset.mem_singleton_self _)
    () () N rfl (amount_snd m c k 0) (amount_rcv m (nbr k c) k 0) O' hO (W := W)
    (by rw [payload_snd, slotM_pts]; unfold sndPay; iintro H; iexists fs; iexact H)
    (by
      rw [payload_rcv, slotM_pts]; unfold rcvPay
      rw [nbr_back]
      iintro H
      iexists _
      isplitr
      rotate_left
      · iexact H
      · ipureintro; exact hf.congr m fun i hi => (slot_land c fd fs i hi).symm))
  iintro ⟨#HR, Hs, Hd, HO, Ht1, Ht2⟩
  isplitr; · iapply (inv_snd m K c k); iexact HR
  isplitr; · iapply (inv_rcv m K (nbr k c) k); iexact HR
  isplitl [Hs]; · iexact Hs
  isplitl [Hd]; · iexact Hd
  isplitl [HO]; · iexact HO
  isplitl [Ht1]; · iexact Ht1
  isplitr; · iapply (reached_snd m K c k); iexact HR
  isplitl [Ht2]; · iexact Ht2
  iapply (reached_rcv m K (nbr k c) k); iexact HR

end Cert.PagedAttn

end
-- ==== Proof.Steps.lean ====
/-
The kernel's effects, one rule each, in terms of the protocol: a signal to a neighbour, a row written to the own slot, a
wait, a row read from a slot, a head of the result written.
-/
module

public import proofs.«01_k».proof.Proof.Slots

@[expose] public section

noncomputable section

namespace Cert.PagedAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A program of device `c`, run to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Signals and waits -/

/-- The signal to neighbour `k`: it pays that neighbour's barrier with the slot the neighbour will fill. -/
theorem wp_tell (K : Dev nD × Fin 7 → ℕ) (c n : Dev nD) (k : Fin 3) (hn : n = nbr k c) {α : Type} {Q : α → sProp 𝕄}
    {kt : PUnit → Prog (TpuEff nD τ sig (Elt F) Λ₀ .tc) α} (f : S4x10x8x64.Idx → Elt F .f32)
    (O O' : CellTallies nD τ sig Unit) (hO : O = O' + tallyAt (barC (nbr k c)) () 1) (W : Waits sig Unit) :
    iprop(records m K ∗ owes (c : Thread nD τ) O W ∗ dutyTok ER (barC (nbr k c)) 0 k ∗ slotPts c (yc (nbr k c)) fullShare f)
      ⊢ iprop((owes (c : Thread nD τ) O' W -∗ WP c (kt ⟨⟩) Q) -∗ WP c (semSignalWord n barS 1#32 >>= kt) Q) := by
  subst hn
  simp only [semSignalWord, Prog.lift, Prog.bind_op, Prog.bind_ret]
  iintro ⟨#HR, HO, Ht, Hs⟩ Hk
  iapply (Rounds.wp_signal 𝒱₀ ER (plan m) (c : Thread nD τ) none (dst := (nbr k c : Thread nD τ)) (κ := K (nbr k c, 0))
      (d := k) (by rw [duties_bar]; exact Finset.mem_univ _) ((amount_bar m (nbr k c) k).trans (by decide)) () O' hO)
    $$ [HO Ht Hs]
  · isplitr; · iapply (inv_bar m K (nbr k c)); iexact HR
    isplitl [HO]; · iexact HO
    isplitl [Ht]; · iexact Ht
    isplitl [Hs]
    · rw [payload_bar]; unfold barPay; rw [nbr_back]
      isplitl [Hs]; · iexists f; iexact Hs
      iapply (reached_rcv m K c (back k)); iexact HR
    · iapply (reached_bar m K (nbr k c)); iexact HR
  iexact Hk

/-- The wait for the three neighbours' signals. -/
theorem wp_hear (K : Dev nD × Fin 7 → ℕ) (c : Dev nD) {α : Type} {Q : α → sProp 𝕄} {kt : PUnit → Prog (TpuEff nD τ sig (Elt F) Λ₀ .tc) α} (W : Waits sig Unit) :
    iprop(records m K ∗ cred (tallyAt (barC c) () 3) ∗ owes (c : Thread nD τ) (D1 c) W ∗ levAts L lv ∗ atPos ER (barC c) 0 ∅ 0)
      ⊢ iprop(((∃ W', owes (c : Thread nD τ) (D1 c) W' ∗ atPos ER (barC c) 1 ∅ 0 ∗ barPay c 0 ∗ barPay c 1 ∗ barPay c 2) -∗ WP c (kt ⟨⟩) Q)
          -∗ WP c (semWaitWord barS 3#32 >>= kt) Q) := by
  simp only [semWaitWord, Prog.lift, Prog.bind_op, Prog.bind_ret]
  iintro ⟨#HR, Hc, HO, #Hl, Hat⟩ Hk
  iapply (Rounds.wp_wait_rest_token 𝒱₀ ER (plan m) (c : Thread nD τ) none (κ := K (c, 0))
      (wpE_semWait_eq 𝒱₀ (c : Thread nD τ) none Set.univ) (Set.mem_univ _) () (O := D1 c) (W := W) (R := 0) (m := 0) (T := ∅)
      (by rw [expect_bar]; decide)) $$ [Hc HO Hat]
  · isplitr; · iapply (inv_bar m K c); iexact HR
    isplitl [Hc]; · iexact Hc
    isplitl [HO]; · iexact HO
    isplitr; · iapply (mayWait_bar c); iexact Hl
    iexact Hat
  iintro ⟨HO, Hat, -, Hp⟩
  ihave Hp := (Entails.of_eq (rest_bar m c)) $$ Hp
  icases Hp with ⟨H0, H1, H2⟩
  iapply Hk
  iexists _
  isplitl [HO]; · iexact HO
  isplitl [Hat]; · iexact Hat
  isplitl [H0]; · iexact H0
  isplitl [H1] <;> iassumption

/-- The wait for copy `k` to land. -/
theorem wp_landed (K : Dev nD × Fin 7 → ℕ) (c d : Dev nD) (k : Fin 3) {α : Type} {Q : α → sProp 𝕄} {kt : PUnit → Prog (TpuEff nD τ sig (Elt F) Λ₀ .tc) α}
    {h1 : (slotM d).view.WordExact} {h2 : (slotM d).view.WordExact} (W : Waits sig Unit) :
    iprop(records m K ∗ cred (tallyAt (rcvC c k) () N) ∗ owes (c : Thread nD τ) 0 W ∗ atPos ER (rcvC c k) 0 ∅ 0)
      ⊢ iprop(((∃ W', owes (c : Thread nD τ) 0 W' ∗ atPos ER (rcvC c k) 1 ∅ 0 ∗ rcvPay m c k) -∗ WP c (kt ⟨⟩) Q)
          -∗ WP c (.op (.waitDma2 (rcvS k) (slotM d) (slotM d) h1 h2) kt) Q) := by
  iintro ⟨#HR, Hc, HO, Hat⟩ Hk
  iapply (Rounds.wp_wait_rest_token 𝒱₀ ER (plan m) (c : Thread nD τ) none (κ := K (c, iR k))
      (wpE_waitDma2_eq 𝒱₀ (c : Thread nD τ) none Set.univ) (Set.mem_univ _) () (O := 0) (W := W) (R := 0) (m := 0) (T := ∅)
      (by rw [Nat.zero_add, expect_rcv])) $$ [Hc HO Hat]
  · isplitr; · iapply (inv_rcv m K c k); iexact HR
    isplitl [Hc]; · iexact Hc
    isplitl [HO]; · iexact HO
    isplitr; · rw [MayWait_zero]; iempintro
    iexact Hat
  iintro ⟨HO, Hat, -, Hp⟩
  ihave Hp := (Entails.of_eq (rest_rcv m c k)) $$ Hp
  iapply Hk
  iexists _
  isplitl [HO]; · iexact HO
  isplitl [Hat] <;> iassumption

/-- The wait for copy `k` to have been read out. -/
theorem wp_sent (K : Dev nD × Fin 7 → ℕ) (c d : Dev nD) (k : Fin 3) {α : Type} {Q : α → sProp 𝕄} {kt : PUnit → Prog (TpuEff nD τ sig (Elt F) Λ₀ .tc) α}
    {h1 : (slotM d).view.WordExact} {h2 : (slotM d).view.WordExact} (W : Waits sig Unit) :
    iprop(records m K ∗ cred (tallyAt (sndC c k) () N) ∗ owes (c : Thread nD τ) 0 W ∗ atPos ER (sndC c k) 0 ∅ 0)
      ⊢ iprop(((∃ W', owes (c : Thread nD τ) 0 W' ∗ atPos ER (sndC c k) 1 ∅ 0 ∗ sndPay c k) -∗ WP c (kt ⟨⟩) Q)
          -∗ WP c (.op (.waitDma2 (sndS k) (slotM d) (slotM d) h1 h2) kt) Q) := by
  iintro ⟨#HR, Hc, HO, Hat⟩ Hk
  iapply (Rounds.wp_wait_rest_token 𝒱₀ ER (plan m) (c : Thread nD τ) none (κ := K (c, iS k))
      (wpE_waitDma2_eq 𝒱₀ (c : Thread nD τ) none Set.univ) (Set.mem_univ _) () (O := 0) (W := W) (R := 0) (m := 0) (T := ∅)
      (by rw [Nat.zero_add, expect_snd])) $$ [Hc HO Hat]
  · isplitr; · iapply (inv_snd m K c k); iexact HR
    isplitl [Hc]; · iexact Hc
    isplitl [HO]; · iexact HO
    isplitr; · rw [MayWait_zero]; iempintro
    iexact Hat
  iintro ⟨HO, Hat, -, Hp⟩
  ihave Hp := (Entails.of_eq (rest_snd m c k)) $$ Hp
  iapply Hk
  iexists _
  isplitl [HO]; · iexact HO
  isplitl [Hat] <;> iassumption

/-! ## The own slot -/

/-- A row of the own slot rewritten (the kernel reads it first and drops what it read). -/
theorem wp_putOut (c : Dev nD) (s : Fin 4) (h : Fin 8) {α : Type} {Q : α → sProp 𝕄} {kt : PUnit → Prog (TpuEff nD τ sig (Elt F) Λ₀ .tc) α}
    (off : Fin 4 → Nat) (inb : ∀ a, off a + S1x1x8x64.size a ≤ S4x10x8x64.size a) (ho : off = ![s.val, h.val, 0, 0])
    {hl : (xM.view.LoadsAt (Rect.unit (s := S4x10x8x64) off S1x1x8x64.size inb).toLoadRect)}
    (w : Vec F S1x1x8x64 .f32) {hx : (xM.access (Rect.unit (s := S4x10x8x64) off S1x1x8x64.size inb)).Stores Finset.univ}
    {hm : (Finset.univ : Finset (Rect.unit (s := S4x10x8x64) off S1x1x8x64.size inb).shape.Idx) = Finset.univ ∨ ∀ a, (Rect.unit (s := S4x10x8x64) off S1x1x8x64.size inb).stride a = 1}
    (f : S4x10x8x64.Idx → Elt F .f32) :
    (slotPts c s fullShare f) ⊢ iprop((slotPts c s fullShare (putOut s h f w) -∗ WP c (kt ⟨⟩) Q)
      -∗ WP c (.op (.load xM (Rect.unit (s := S4x10x8x64) off S1x1x8x64.size inb).toLoadRect hl)
          fun _ => .op (.store xM (Rect.unit (s := S4x10x8x64) off S1x1x8x64.size inb) w Finset.univ hx hm) kt) Q) := by
  subst ho
  unfold slotPts
  iintro H Hk
  iapply (wp_load 𝒱₀ (c : Thread nD τ) none Set.univ (m := xM) (r := (rOut s h).toLoadRect) (rOut_within s h)) $$ H
  iintro H
  iapply (wp_store 𝒱₀ (c : Thread nD τ) none Set.univ (m := xM) (r := rOut s h) (Mk := Finset.univ)
    ((View.set_slice_whole cc0_scratch0 (rOut s h)).subset.trans (rOut_sub s h))) $$ H
  iexact Hk

theorem wp_putStat (c : Dev nD) (s : Fin 4) (j : Fin 2) {α : Type} {Q : α → sProp 𝕄} {kt : PUnit → Prog (TpuEff nD τ sig (Elt F) Λ₀ .tc) α}
    (off : Fin 4 → Nat) (inb : ∀ a, off a + S1x1x8x8.size a ≤ S4x10x8x64.size a) (ho : off = ![s.val, 8 + j.val, 0, 0])
    {hl : (xM.view.LoadsAt (Rect.unit (s := S4x10x8x64) off S1x1x8x8.size inb).toLoadRect)}
    (w : Vec F S1x1x8x8 .f32) {hx : (xM.access (Rect.unit (s := S4x10x8x64) off S1x1x8x8.size inb)).Stores Finset.univ}
    {hm : (Finset.univ : Finset (Rect.unit (s := S4x10x8x64) off S1x1x8x8.size inb).shape.Idx) = Finset.univ ∨ ∀ a, (Rect.unit (s := S4x10x8x64) off S1x1x8x8.size inb).stride a = 1}
    (f : S4x10x8x64.Idx → Elt F .f32) :
    (slotPts c s fullShare f) ⊢ iprop((slotPts c s fullShare (putStat s j f w) -∗ WP c (kt ⟨⟩) Q)
      -∗ WP c (.op (.load xM (Rect.unit (s := S4x10x8x64) off S1x1x8x8.size inb).toLoadRect hl)
          fun _ => .op (.store xM (Rect.unit (s := S4x10x8x64) off S1x1x8x8.size inb) w Finset.univ hx hm) kt) Q) := by
  subst ho
  unfold slotPts
  iintro H Hk
  iapply (wp_load 𝒱₀ (c : Thread nD τ) none Set.univ (m := xM) (r := (rStat s j).toLoadRect) (rStat_within s j)) $$ H
  iintro H
  iapply (wp_store 𝒱₀ (c : Thread nD τ) none Set.univ (m := xM) (r := rStat s j) (Mk := Finset.univ)
    ((View.set_slice_whole cc0_scratch0 (rStat s j)).subset.trans (rStat_sub s j))) $$ H
  iexact Hk

/-- What the own slot holds after its first `n` rows are written: the rows of number below `n`, the two last counted
    as rows 8 and 9. -/
def Filled (c : Dev nD) (n : Nat) (f : S4x10x8x64.Idx → Elt F .f32) : Prop :=
  (∀ h : Fin 8, h.val < n → getOut (yc c) h f = rowO m c h) ∧ ∀ j : Fin 2, 8 + j.val < n → getStat (yc c) j f = rowS m c j

theorem Filled.putOut {c : Dev nD} {h : Fin 8} {f : S4x10x8x64.Idx → Elt F .f32} (hf : Filled m c h.val f) :
    Filled m c (h.val + 1) (putOut (yc c) h f (rowO m c h)) := by
  refine ⟨fun h' hh => ?_, fun j hj => absurd hj (by have := h.isLt; omega)⟩
  by_cases e : h' = h
  · subst e; exact getOut_putOut _ _ _ _
  · rw [getOut_putOut_ne _ e]; exact hf.1 h' (by have : h'.val ≠ h.val := fun e' => e (Fin.ext e'); omega)
theorem Filled.putStat {c : Dev nD} {j : Fin 2} {f : S4x10x8x64.Idx → Elt F .f32} (hf : Filled m c (8 + j.val) f) :
    Filled m c (8 + j.val + 1) (putStat (yc c) j f (rowS m c j)) := by
  refine ⟨fun h' hh => ?_, fun j' hj => ?_⟩
  · rw [getOut_putStat]; exact hf.1 h' (by have := h'.isLt; omega)
  by_cases e : j' = j
  · subst e; exact getStat_putStat _ _ _ _
  · rw [getStat_putStat_ne _ e]; exact hf.2 j' (by have : j'.val ≠ j.val := fun e' => e (Fin.ext e'); omega)
theorem Filled.good {c : Dev nD} {f : S4x10x8x64.Idx → Elt F .f32} (hf : Filled m c 10 f) : Good m c f :=
  ⟨fun h => hf.1 h (by have := h.isLt; omega), fun j => hf.2 j (by have := j.isLt; omega)⟩

/-- The own slot with its first `n` rows written. -/
def ownSlot (c : Dev nD) (n : Nat) : sProp 𝕄 := iprop(∃ f, ⌜Filled m c n f⌝ ∗ slotPts c (yc c) fullShare f)

theorem ownSlot_zero (c : Dev nD) (f : S4x10x8x64.Idx → Elt F .f32) : (slotPts c (yc c) fullShare f : sProp 𝕄) ⊢ ownSlot m c 0 := by
  unfold ownSlot
  iintro H
  iexists f
  isplitr; · (ipureintro; exact ⟨fun _ h => absurd h (Nat.not_lt_zero _), fun _ h => absurd h (Nat.not_lt_zero _)⟩)
  iexact H

/-- Row `h` written where it belongs. -/
theorem wp_fillOut (c : Dev nD) (h : Fin 8) {n : Nat} (hn : h.val = n) {α : Type} {Q : α → sProp 𝕄} {kt : PUnit → Prog (TpuEff nD τ sig (Elt F) Λ₀ .tc) α}
    (off : Fin 4 → Nat) (inb : ∀ a, off a + S1x1x8x64.size a ≤ S4x10x8x64.size a) (ho : off = ![(yc c).val, h.val, 0, 0])
    {hl : (xM.view.LoadsAt (Rect.unit (s := S4x10x8x64) off S1x1x8x64.size inb).toLoadRect)}
    (w : Vec F S1x1x8x64 .f32) (hw : w = rowO m c h) {hx : (xM.access (Rect.unit (s := S4x10x8x64) off S1x1x8x64.size inb)).Stores Finset.univ}
    {hm : (Finset.univ : Finset (Rect.unit (s := S4x10x8x64) off S1x1x8x64.size inb).shape.Idx) = Finset.univ ∨ ∀ a, (Rect.unit (s := S4x10x8x64) off S1x1x8x64.size inb).stride a = 1} :
    (ownSlot m c n) ⊢ iprop((ownSlot m c (n + 1) -∗ WP c (kt ⟨⟩) Q)
      -∗ WP c (.op (.load xM (Rect.unit (s := S4x10x8x64) off S1x1x8x64.size inb).toLoadRect hl)
          fun _ => .op (.store xM (Rect.unit (s := S4x10x8x64) off S1x1x8x64.size inb) w Finset.univ hx hm) kt) Q) := by
  subst hw
  subst hn
  unfold ownSlot
  iintro ⟨%f, %hf, H⟩ Hk
  iapply (wp_putOut c (yc c) h off inb ho _ f) $$ H
  iintro H
  iapply Hk
  iexists _
  isplitr
  rotate_left
  · iexact H
  · ipureintro; exact hf.putOut m

theorem wp_fillStat (c : Dev nD) (j : Fin 2) {n : Nat} (hn : 8 + j.val = n) {α : Type} {Q : α → sProp 𝕄} {kt : PUnit → Prog (TpuEff nD τ sig (Elt F) Λ₀ .tc) α}
    (off : Fin 4 → Nat) (inb : ∀ a, off a + S1x1x8x8.size a ≤ S4x10x8x64.size a) (ho : off = ![(yc c).val, 8 + j.val, 0, 0])
    {hl : (xM.view.LoadsAt (Rect.unit (s := S4x10x8x64) off S1x1x8x8.size inb).toLoadRect)}
    (w : Vec F S1x1x8x8 .f32) (hw : w = rowS m c j) {hx : (xM.access (Rect.unit (s := S4x10x8x64) off S1x1x8x8.size inb)).Stores Finset.univ}
    {hm : (Finset.univ : Finset (Rect.unit (s := S4x10x8x64) off S1x1x8x8.size inb).shape.Idx) = Finset.univ ∨ ∀ a, (Rect.unit (s := S4x10x8x64) off S1x1x8x8.size inb).stride a = 1} :
    (ownSlot m c n) ⊢ iprop((ownSlot m c (n + 1) -∗ WP c (kt ⟨⟩) Q)
      -∗ WP c (.op (.load xM (Rect.unit (s := S4x10x8x64) off S1x1x8x8.size inb).toLoadRect hl)
          fun _ => .op (.store xM (Rect.unit (s := S4x10x8x64) off S1x1x8x8.size inb) w Finset.univ hx hm) kt) Q) := by
  subst hw
  subst hn
  unfold ownSlot
  iintro ⟨%f, %hf, H⟩ Hk
  iapply (wp_putStat c (yc c) j off inb ho _ f) $$ H
  iintro H
  iapply Hk
  iexists _
  isplitr
  rotate_left
  · iexact H
  · ipureintro; exact hf.putStat m

/-! ## Reading the four slots -/

theorem heldAll_at (c : Dev nD) (s : Fin 4) : heldAll m c = iprop(held m c s ∗ bigSep (Finset.univ.erase s) (held m c)) := by
  unfold heldAll; rw [← slots_num, bigSep_univ_at _ s]

theorem wp_readOut (c : Dev nD) (s : Fin 4) (h : Fin 8) {α : Type} {Q : α → sProp 𝕄}
    (off : Fin 4 → Nat) (inb : ∀ a, off a + S1x1x8x64.size a ≤ S4x10x8x64.size a) (ho : off = ![s.val, h.val, 0, 0])
    {hl : (xM.view.LoadsAt (Rect.unit (s := S4x10x8x64) off S1x1x8x64.size inb).toLoadRect)}
    {kt : Vec F S1x1x8x64 .f32 → Prog (TpuEff nD τ sig (Elt F) Λ₀ .tc) α} :
    (heldAll m c) ⊢ iprop((heldAll m c -∗ WP c (kt (colO m c s h)) Q)
      -∗ WP c (.op (.load xM (Rect.unit (s := S4x10x8x64) off S1x1x8x64.size inb).toLoadRect hl) kt) Q) := by
  subst ho
  rw [heldAll_at m c s]
  unfold held slotPts
  iintro ⟨⟨%f, %hf, H⟩, Hr⟩ Hk
  have e : View.readAt (Elt F) xM.view (rOut s h).toLoadRect f = colO m c s h := by
    have := hf.1 h; rw [yc_col] at this; exact this
  iapply (wp_load 𝒱₀ (c : Thread nD τ) none Set.univ (m := xM) (r := (rOut s h).toLoadRect) (rOut_within s h)) $$ H
  iintro H
  rw [e]
  iapply Hk
  isplitl [H]
  · iexists f; isplitr; · (ipureintro; exact hf)
    iexact H
  iexact Hr

theorem wp_readStat (c : Dev nD) (s : Fin 4) (j : Fin 2) {α : Type} {Q : α → sProp 𝕄}
    (off : Fin 4 → Nat) (inb : ∀ a, off a + S1x1x8x8.size a ≤ S4x10x8x64.size a) (ho : off = ![s.val, 8 + j.val, 0, 0])
    {hl : (xM.view.LoadsAt (Rect.unit (s := S4x10x8x64) off S1x1x8x8.size inb).toLoadRect)}
    {kt : Vec F S1x1x8x8 .f32 → Prog (TpuEff nD τ sig (Elt F) Λ₀ .tc) α} :
    (heldAll m c) ⊢ iprop((heldAll m c -∗ WP c (kt (rowS m (col c s) j)) Q)
      -∗ WP c (.op (.load xM (Rect.unit (s := S4x10x8x64) off S1x1x8x8.size inb).toLoadRect hl) kt) Q) := by
  subst ho
  rw [heldAll_at m c s]
  unfold held slotPts
  iintro ⟨⟨%f, %hf, H⟩, Hr⟩ Hk
  have e : View.readAt (Elt F) xM.view (rStat s j).toLoadRect f = rowS m (col c s) j := by
    have := hf.2 j; rw [yc_col] at this; exact this
  iapply (wp_load 𝒱₀ (c : Thread nD τ) none Set.univ (m := xM) (r := (rStat s j).toLoadRect) (rStat_within s j)) $$ H
  iintro H
  rw [e]
  iapply Hk
  isplitl [H]
  · iexists f; isplitr; · (ipureintro; exact hf)
    iexact H
  iexact Hr

/-! ## The result -/

abbrev oM : Memref sig .tc .vmem S8x1x8x64 .f32 := Memref.whole cc0_stg5_0

/-- The result buffer with heads below `n` written. -/
def Done (c : Dev nD) (n : Nat) (f : S8x1x8x64.Idx → Elt F .f32) : Prop := ∀ i : S8x1x8x64.Idx, (i 2).val < n → f i = outAt m c i

/-- Each index of the result lies in its head's rows. -/
theorem head_emb (i : S8x1x8x64.Idx) : (rHead (i 2)).emb (inHead i) = i := by
  funext a
  refine Fin.ext ?_
  rw [Rect.emb_apply]
  have h1 : (i (1 : Fin 4)).val < 1 := (i (1 : Fin 4)).isLt
  match a with
  | 0 => show 0 + 1 * (i 0).val = (i 0).val; omega
  | 1 => show 0 + 1 * (i 1).val = (i 1).val; omega
  | 2 => show (i 2).val + 1 * 0 = (i 2).val; omega
  | 3 => show 0 + 1 * (i 3).val = (i 3).val; omega

theorem mem_rHead (i : S8x1x8x64.Idx) (h : Fin 8) : i ∈ (rHead h).set ↔ i 2 = h := by
  constructor
  · intro hi
    have := (Rect.mem_set_unit.mp hi) (2 : Fin 4)
    change h.val ≤ (i 2).val ∧ (i 2).val < h.val + 1 at this
    exact Fin.ext (by omega)
  · rintro rfl
    refine Rect.mem_set_unit.mpr fun a => ?_
    have h1 : (i (1 : Fin 4)).val < 1 := (i (1 : Fin 4)).isLt
    match a with
    | 0 => exact ⟨Nat.zero_le _, (i 0).isLt.trans_eq (Nat.zero_add _).symm⟩
    | 1 => exact ⟨Nat.zero_le _, (i 1).isLt.trans_eq (Nat.zero_add _).symm⟩
    | 2 => exact ⟨le_refl (i 2).val, Nat.lt_succ_self (i 2).val⟩
    | 3 => exact ⟨Nat.zero_le _, (i 3).isLt.trans_eq (Nat.zero_add _).symm⟩

theorem Done.put {c : Dev nD} {h : Fin 8} {f : S8x1x8x64.Idx → Elt F .f32} (hf : Done m c h.val f) :
    Done m c (h.val + 1) ((oM.access (rHead h) : View sig .tc _ _ _).write (Elt F) f (outB m c h) Finset.univ) := by
  intro i hi
  by_cases e : i 2 = h
  · subst e
    have hw := View.write_emb_of_mem (v := (oM.access (rHead (i 2)) : View sig .tc _ _ _)) (Val := Elt F) f (outB m c (i 2)) (M := Finset.univ) (x := inHead i) (Finset.mem_univ _)
    have he : (oM.access (rHead (i 2)) : View sig .tc _ _ _).emb (inHead i) = i := head_emb i
    rw [he] at hw
    exact hw
  · have hn : i ∉ (oM.access (rHead h) : View sig .tc _ _ _).setOn Finset.univ := by
      have hs : ((oM.access (rHead h) : View sig .tc _ _ _).setOn Finset.univ : Finset S8x1x8x64.Idx) = (rHead h).set := View.set_slice_whole cc0_stg5_0 (rHead h)
      rw [hs]; exact fun hm => e ((mem_rHead i h).mp hm)
    rw [View.write_of_not_mem _ _ _ hn]
    exact hf i (by have : (i 2).val ≠ h.val := fun e' => e (Fin.ext e'); omega)

theorem Done.all {c : Dev nD} {f : S8x1x8x64.Idx → Elt F .f32} (hf : Done m c 8 f) : f = outAt m c :=
  funext fun i => hf i (i 2).isLt

def outBuf (c : Dev nD) (n : Nat) : sProp 𝕄 := iprop(∃ f, ⌜Done m c n f⌝ ∗ (((c : Thread nD τ).loc cc0_stg5_0) ↦{fullShare} f))

/-- Head `h` of the result written. -/
theorem wp_putHead (c : Dev nD) (h : Fin 8) {n : Nat} (hn : h.val = n) {α : Type} {Q : α → sProp 𝕄} {kt : PUnit → Prog (TpuEff nD τ sig (Elt F) Λ₀ .tc) α}
    (off : Fin 4 → Nat) (inb : ∀ a, off a + S8x1x1x64.size a ≤ S8x1x8x64.size a) (ho : off = ![0, 0, h.val, 0])
    {hl : (oM.view.LoadsAt (Rect.unit (s := S8x1x8x64) off S8x1x1x64.size inb).toLoadRect)}
    (w : Vec F S8x1x1x64 .f32) (hw : w = outB m c h) {hx : (oM.access (Rect.unit (s := S8x1x8x64) off S8x1x1x64.size inb)).Stores Finset.univ}
    {hm : (Finset.univ : Finset (Rect.unit (s := S8x1x8x64) off S8x1x1x64.size inb).shape.Idx) = Finset.univ ∨ ∀ a, (Rect.unit (s := S8x1x8x64) off S8x1x1x64.size inb).stride a = 1} :
    (outBuf m c n) ⊢ iprop((outBuf m c (n + 1) -∗ WP c (kt ⟨⟩) Q)
      -∗ WP c (.op (.load oM (Rect.unit (s := S8x1x8x64) off S8x1x1x64.size inb).toLoadRect hl)
          fun _ => .op (.store oM (Rect.unit (s := S8x1x8x64) off S8x1x1x64.size inb) w Finset.univ hx hm) kt) Q) := by
  subst hw
  subst hn
  subst ho
  unfold outBuf
  iintro ⟨%f, %hf, H⟩ Hk
  iapply (wp_load 𝒱₀ (c : Thread nD τ) none Set.univ (m := oM) (Finset.subset_univ _)) $$ H
  iintro H
  iapply (wp_store 𝒱₀ (c : Thread nD τ) none Set.univ (m := oM) (r := rHead h) (Mk := Finset.univ) (Finset.subset_univ _)) $$ H
  iintro H
  iapply Hk
  iexists _
  isplitr
  rotate_left
  · iexact H
  · ipureintro; exact hf.put m

end Cert.PagedAttn

end
-- ==== Proof.BodyA.lean ====
/-
The kernel's body up to the neighbours' signals, piece by piece: telling the neighbours their slots are free, reading the
operands, and filling the own slot.
-/
module

public import proofs.«01_k».proof.Proof.Steps

@[expose] public section

noncomputable section

namespace Cert.PagedAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The barrier semaphore as the kernel names it. -/
abbrev barA : Sems sig S_ := SemArray.scalar (sig.barrier 0 rfl)

/-- The operand buffers a device reads. -/
def operands (c : Dev nD) : sProp 𝕄 :=
  iprop((((c : Thread nD τ).loc cc0_stg0_0) ↦{fullShare} qIn m c) ∗ (((c : Thread nD τ).loc cc0_stg1_0) ↦{fullShare} kIn m c)
    ∗ (((c : Thread nD τ).loc cc0_stg2_0) ↦{fullShare} vIn m c) ∗ (((c : Thread nD τ).loc cc0_stg3_0) ↦{fullShare} btIn m c)
    ∗ (((c : Thread nD τ).loc cc0_stg4_0) ↦{fullShare} lenIn m c))

/-- A buffer read, of which the value read is known. -/
theorem wp_readAll (c : Dev nD) {sp : CoreSpace} {s : Shape} {e : EltTy} (mm : Memref sig .tc sp s e) {α : Type} {Q : α → sProp 𝕄}
    (r : LoadRect s) {hl : mm.view.LoadsAt r} (f : mm.view.ty.Contents (Elt F)) (v : r.shape.Idx → Elt F e)
    (hv : mm.view.readAt (Elt F) r f = v) {kt : (r.shape.Idx → Elt F e) → Prog (TpuEff nD τ sig (Elt F) Λ₀ .tc) α} :
    ((mm.view.loc (c : Thread nD τ)) ↦{fullShare} f : sProp 𝕄) ⊢ iprop((((mm.view.loc (c : Thread nD τ)) ↦{fullShare} f) -∗ WP c (kt v) Q)
      -∗ WP c (.op (.load mm r hl) kt) Q) := by
  subst hv
  iintro H Hk
  iapply (wp_load 𝒱₀ (c : Thread nD τ) none Set.univ (m := mm) (r := r) (Finset.subset_univ _)) $$ H
  iintro H
  iapply Hk
  iexact H

abbrev run1 := k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec1 (K : Dev nD × Fin 7 → ℕ) (c : Dev nD) (W : Waits sig Unit) (f : S4x10x8x64.Idx → Elt F .f32) {Q} :
    iprop(records m K ∗ owes (c : Thread nD τ) (O₀ c) W ∗ dutyTok ER (barC (nbr 0 c)) 0 0 ∗ slotPts c (yc (nbr 0 c)) fullShare f)
      ⊢ iprop((∀ a b d e g, owes (c : Thread nD τ) (B1 c) W -∗ Q ⟨c, a, yWord c, b, baseWord c, barA, d, e, g, 0#32⟩)
          -∗ WP c (run1 (F := F)) Q) := by
  unfold run1 WP baseWord yWord
  simp only [k0_part1_eq_skeleton]
  unfold k0_part1_skel
  simp only [Prog.lift, Prog.bind_op, Prog.bind_ret, Prog.pure_eq_ret, wp_deviceId]
  iintro ⟨#HR, HO, Ht, Hs⟩ Hk
  iapply (wp_tell m K c _ 0 (dev1_eq c) f (O₀ c) (B1 c) rfl W) $$ [HO Ht Hs]
  · isplitr; · iexact HR
    isplitl [HO]; · iexact HO
    isplitl [Ht] <;> iassumption
  iintro HO
  unfold WP
  rw [wp_ret]; imodintro
  iapply Hk
  iexact HO

abbrev run2 := k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec2 (K : Dev nD × Fin 7 → ℕ) (c : Dev nD) (W : Waits sig Unit) (f1 f2 : S4x10x8x64.Idx → Elt F .f32) (a b d e : BitVec 32) (g : BitVec 1) (h : BitVec 32) {Q} :
    iprop(records m K ∗ owes (c : Thread nD τ) (B1 c) W ∗ (dutyTok ER (barC (nbr 1 c)) 0 1 ∗ slotPts c (yc (nbr 1 c)) fullShare f1)
        ∗ (dutyTok ER (barC (nbr 2 c)) 0 2 ∗ slotPts c (yc (nbr 2 c)) fullShare f2) ∗ operands m c)
      ⊢ iprop((owes (c : Thread nD τ) (D1 c) W ∗ operands m c -∗ Q ⟨k0_pay1 (btIn m c), k0_pay2 (lenIn m c)⟩)
          -∗ WP c (run2 (F := F) c a (yWord c) b barA d e g h) Q) := by
  unfold run2 WP
  simp only [k0_part2_eq_skeleton]
  unfold k0_part2_skel
  simp only [Prog.lift, Prog.bind_op, Prog.bind_ret, Prog.pure_eq_ret, wp_deviceId]
  unfold operands
  iintro ⟨#HR, HO, ⟨Ht1, Hs1⟩, ⟨Ht2, Hs2⟩, Hq, Hkk, Hv, Hb, Hl⟩ Hk
  iapply (wp_tell m K c _ 1 (dev2_eq c) f1 (B1 c) (B2 c) rfl W) $$ [HO Ht1 Hs1]
  · isplitr; · iexact HR
    isplitl [HO]; · iexact HO
    isplitl [Ht1] <;> iassumption
  iintro HO
  iapply (wp_tell m K c _ 2 (dev3_eq c) f2 (B2 c) (D1 c) rfl W) $$ [HO Ht2 Hs2]
  · isplitr; · iexact HR
    isplitl [HO]; · iexact HO
    isplitl [Ht2] <;> iassumption
  iintro HO
  iapply (wp_readAll c (Memref.whole cc0_stg3_0) _ (btIn m c) (btIn m c) (Memref.readAt_unit_zero (Elt F) cc0_stg3_0 (by decide) _ _)) $$ Hb
  iintro Hb
  iapply (wp_readAll c (Memref.whole cc0_stg4_0) _ (lenIn m c) (lenIn m c) (Memref.readAt_unit_zero (Elt F) cc0_stg4_0 (by decide) _ _)) $$ Hl
  iintro Hl
  unfold WP
  rw [wp_ret]; imodintro
  iapply Hk
  isplitl [HO]; · iexact HO
  isplitl [Hq]; · iexact Hq
  isplitl [Hkk]; · iexact Hkk
  isplitl [Hv]; · iexact Hv
  isplitl [Hb] <;> iassumption

abbrev run3 := k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec3 (c : Dev nD) {Q} :
    (operands m c)
      ⊢ iprop((operands m c -∗ Q ⟨cnt m c, vRows m c, k0_pay5, score m c, live m c⟩)
          -∗ WP c (run3 (F := F) (baseWord c) (k0_pay1 (btIn m c)) (k0_pay2 (lenIn m c))) Q) := by
  unfold run3 WP
  simp only [k0_part3_eq_skeleton]
  unfold k0_part3_skel
  simp only [Prog.lift, Prog.bind_op, Prog.bind_ret, Prog.pure_eq_ret, wp_deviceId]
  unfold operands cnt vRows score live
  iintro ⟨Hq, Hkk, Hv, Hb, Hl⟩ Hk
  iapply (wp_readAll c (Memref.whole cc0_stg1_0) _ (kIn m c) (kIn m c) (Memref.readAt_unit_zero (Elt F) cc0_stg1_0 (by decide) _ _)) $$ Hkk
  iintro Hkk
  iapply (wp_readAll c (Memref.whole cc0_stg2_0) _ (vIn m c) (vIn m c) (Memref.readAt_unit_zero (Elt F) cc0_stg2_0 (by decide) _ _)) $$ Hv
  iintro Hv
  iapply (wp_readAll c (Memref.whole cc0_stg0_0) _ (qIn m c) (qIn m c) (Memref.readAt_unit_zero (Elt F) cc0_stg0_0 (by decide) _ _)) $$ Hq
  iintro Hq
  unfold WP
  rw [wp_ret]; imodintro
  iapply Hk
  isplitl [Hq]; · iexact Hq
  isplitl [Hkk]; · iexact Hkk
  isplitl [Hv]; · iexact Hv
  isplitl [Hb] <;> iassumption

theorem k0_off1_row (c : Dev nD) : k0_off1 c = ![(yc c).val, (0 : Fin 8).val, 0, 0] := k0_off1_eq c
theorem k0_off2_row (c : Dev nD) : k0_off2 c = ![(yc c).val, (1 : Fin 8).val, 0, 0] := k0_off2_eq c
theorem k0_off3_row (c : Dev nD) : k0_off3 c = ![(yc c).val, (2 : Fin 8).val, 0, 0] := k0_off3_eq c
theorem k0_off4_row (c : Dev nD) : k0_off4 c = ![(yc c).val, (3 : Fin 8).val, 0, 0] := k0_off4_eq c
theorem k0_off5_row (c : Dev nD) : k0_off5 c = ![(yc c).val, (4 : Fin 8).val, 0, 0] := k0_off5_eq c
theorem k0_off6_row (c : Dev nD) : k0_off6 c = ![(yc c).val, (5 : Fin 8).val, 0, 0] := k0_off6_eq c
theorem k0_off7_row (c : Dev nD) : k0_off7 c = ![(yc c).val, (6 : Fin 8).val, 0, 0] := k0_off7_eq c
theorem k0_off8_row (c : Dev nD) : k0_off8 c = ![(yc c).val, (7 : Fin 8).val, 0, 0] := k0_off8_eq c
theorem k0_off9_row (c : Dev nD) : k0_off9 c = ![(yc c).val, 8 + (0 : Fin 2).val, 0, 0] := k0_off9_eq c
theorem k0_off10_row (c : Dev nD) : k0_off10 c = ![(yc c).val, 8 + (1 : Fin 2).val, 0, 0] := k0_off10_eq c

abbrev run4 := k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec4 (c : Dev nD) {Q} :
    (ownSlot m c 0)
      ⊢ iprop((ownSlot m c 3 -∗ Q ⟨k0_pay8 (score m c) (live m c), k0_pay10 (cnt m c) (score m c) (live m c), acc m c,
            k0_pay15 (cnt m c) (vRows m c) k0_pay5 (score m c) (live m c)⟩)
          -∗ WP c (run4 (F := F) c (yWord c) (cnt m c) (vRows m c) k0_pay5 (score m c) (live m c)) Q) := by
  unfold run4 WP
  simp only [k0_part4_eq_skeleton]
  unfold k0_part4_skel
  simp only [Prog.lift, Prog.bind_op, Prog.bind_ret, Prog.pure_eq_ret, wp_deviceId]
  unfold acc
  iintro H Hk
  iapply (wp_fillOut m c 0 (n := 0) rfl _ (k0_off1_inb c) (k0_off1_row c) _ rfl) $$ H
  iintro H
  iapply (wp_fillOut m c 1 (n := 1) rfl _ (k0_off2_inb c) (k0_off2_row c) _ rfl) $$ H
  iintro H
  iapply (wp_fillOut m c 2 (n := 2) rfl _ (k0_off3_inb c) (k0_off3_row c) _ rfl) $$ H
  iintro H
  unfold WP
  rw [wp_ret]; imodintro
  iapply Hk
  iexact H

abbrev run5 := k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec5 (c : Dev nD) {Q} :
    (ownSlot m c 3)
      ⊢ iprop((ownSlot m c 9 -∗ Q (k0_pay22 (k0_pay10 (cnt m c) (score m c) (live m c))))
          -∗ WP c (run5 (F := F) c (yWord c) (k0_pay8 (score m c) (live m c)) (k0_pay10 (cnt m c) (score m c) (live m c)) (acc m c)
            (k0_pay15 (cnt m c) (vRows m c) k0_pay5 (score m c) (live m c))) Q) := by
  unfold run5 WP
  simp only [k0_part5_eq_skeleton]
  unfold k0_part5_skel
  simp only [Prog.lift, Prog.bind_op, Prog.bind_ret, Prog.pure_eq_ret, wp_deviceId]
  iintro H Hk
  iapply (wp_fillOut m c 3 (n := 3) rfl _ (k0_off4_inb c) (k0_off4_row c) _ rfl) $$ H
  iintro H
  iapply (wp_fillOut m c 4 (n := 4) rfl _ (k0_off5_inb c) (k0_off5_row c) _ rfl) $$ H
  iintro H
  iapply (wp_fillOut m c 5 (n := 5) rfl _ (k0_off6_inb c) (k0_off6_row c) _ rfl) $$ H
  iintro H
  iapply (wp_fillOut m c 6 (n := 6) rfl _ (k0_off7_inb c) (k0_off7_row c) _ rfl) $$ H
  iintro H
  iapply (wp_fillOut m c 7 (n := 7) rfl _ (k0_off8_inb c) (k0_off8_row c) _ rfl) $$ H
  iintro H
  iapply (wp_fillStat m c 0 (n := 8 + 0) rfl _ (k0_off9_inb c) (k0_off9_row c) _ rfl) $$ H
  iintro H
  unfold WP
  rw [wp_ret]; imodintro
  iapply Hk
  iexact H

end Cert.PagedAttn

end
-- ==== Proof.BodyB.lean ====
/-
The kernel's body from the neighbours' signals to the copies' landing: the exchange of the four slots.
-/
module

public import proofs.«01_k».proof.Proof.BodyA

@[expose] public section

noncomputable section

namespace Cert.PagedAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev run6 := k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec6 (K : Dev nD × Fin 7 → ℕ) (c : Dev nD) (W : Waits sig Unit) (a b : BitVec 32) {Q} :
    iprop(records m K ∗ ownSlot m c 9 ∗ cred (tallyAt (barC c) () 3) ∗ owes (c : Thread nD τ) (D1 c) W ∗ levAts L lv ∗ atPos ER (barC c) 0 ∅ 0
        ∗ dutyTok ER (sndC c 0) 0 0 ∗ dutyTok ER (rcvC (nbr 0 c) 0) 0 0)
      ⊢ iprop((∀ p q r s t, (∃ W' f, ⌜Good m c f⌝ ∗ owes (c : Thread nD τ) (D2 c) W' ∗ atPos ER (barC c) 1 ∅ 0 ∗ slotPts c (yc c) kept f
              ∗ slotPts c (yc c) (lent 1) f ∗ slotPts c (yc c) (lent 2) f ∗ cred (tallyAt (sndC c 0) () N)
              ∗ (∃ g, slotPts (nbr 1 c) (yc c) fullShare g) ∗ (∃ g, slotPts (nbr 2 c) (yc c) fullShare g)) -∗ Q ⟨p, q, r, s, t⟩)
          -∗ WP c (run6 (F := F) c a (yWord c) b barA (k0_pay22 (k0_pay10 (cnt m c) (score m c) (live m c)))) Q) := by
  unfold run6 WP
  simp only [k0_part6_eq_skeleton]
  unfold k0_part6_skel
  simp only [Prog.lift, Prog.bind_op, Prog.bind_ret, Prog.pure_eq_ret, wp_deviceId]
  iintro ⟨#HR, H, Hc, HO, #Hl, Hat, Ht, Ht'⟩ Hk
  iapply (wp_fillStat m c 1 (n := 9) rfl _ (k0_off10_inb c) (k0_off10_row c) _ rfl) $$ H
  iintro H
  iapply (wp_hear m K c W) $$ [Hc HO Hat]
  · isplitr; · iexact HR
    isplitl [Hc]; · iexact Hc
    isplitl [HO]; · iexact HO
    isplitr; · iexact Hl
    iexact Hat
  iintro ⟨%W', HO, Hat, H0, H1, H2⟩
  ihave H0 := (Entails.of_eq (show (barPay c 0 : sProp 𝕄) = iprop((∃ f, slotPts (nbr 2 c) (yc c) fullShare f) ∗ reached ER (rcvC (nbr 2 c) 2) 0) from rfl)) $$ H0
  ihave H1 := (Entails.of_eq (show (barPay c 1 : sProp 𝕄) = iprop((∃ f, slotPts (nbr 1 c) (yc c) fullShare f) ∗ reached ER (rcvC (nbr 1 c) 1) 0) from rfl)) $$ H1
  ihave H2 := (Entails.of_eq (show (barPay c 2 : sProp 𝕄) = iprop((∃ f, slotPts (nbr 0 c) (yc c) fullShare f) ∗ reached ER (rcvC (nbr 0 c) 0) 0) from rfl)) $$ H2
  icases H0 with ⟨H0, -⟩
  icases H1 with ⟨H1, -⟩
  icases H2 with ⟨⟨%g, Hg⟩, -⟩
  unfold ownSlot
  icases H with ⟨%f, %hf, H⟩
  have hg := Filled.good m hf
  ihave H := (slot_lend c (yc c) f) $$ H
  icases H with ⟨Hk0, Hl0, Hl1, Hl2⟩
  iapply (wp_copy m K c _ 0 (dev4_eq c) f g hg (D1 c) (D2 c) rfl W') $$ [Hl0 Hg HO Ht Ht']
  · isplitr; · iexact HR
    isplitl [Hl0]; · iexact Hl0
    isplitl [Hg]; · iexact Hg
    isplitl [HO]; · iexact HO
    isplitl [Ht]; · iexact Ht
    iexact Ht'
  iintro ⟨Hcr, HO⟩
  try unfold WP
  rw [wp_ret]; imodintro
  iapply Hk
  iexists W', f
  isplitr; · (ipureintro; exact hg)
  isplitl [HO]; · iexact HO
  isplitl [Hat]; · iexact Hat
  isplitl [Hk0]; · iexact Hk0
  isplitl [Hl1]; · iexact Hl1
  isplitl [Hl2]; · iexact Hl2
  isplitl [Hcr]; · iexact Hcr
  isplitl [H1]; · iexact H1
  iexact H0

abbrev run7 := k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec7 (K : Dev nD × Fin 7 → ℕ) (c : Dev nD) (W : Waits sig Unit) (a b p q : BitVec 32) (r : BitVec 1) (t : BitVec 32) (f g : S4x10x8x64.Idx → Elt F .f32) (hf : Good m c f) {Q} :
    iprop(records m K ∗ owes (c : Thread nD τ) (D2 c) W ∗ (slotPts c (yc c) (lent 1) f ∗ slotPts (nbr 1 c) (yc c) fullShare g ∗ dutyTok ER (sndC c 1) 0 0 ∗ dutyTok ER (rcvC (nbr 1 c) 1) 0 0))
      ⊢ iprop((∀ x y, cred (tallyAt (sndC c 1) () N) ∗ owes (c : Thread nD τ) (D3 c) W -∗ Q ⟨x, y, 16#32⟩)
          -∗ WP c (run7 (F := F) c a (yWord c) b p q r t) Q) := by
  unfold run7 WP
  simp only [k0_part7_eq_skeleton]
  unfold k0_part7_skel
  simp only [Prog.lift, Prog.bind_op, Prog.bind_ret, Prog.pure_eq_ret, wp_deviceId]
  iintro ⟨#HR, HO, Hl, Hg, Ht, Ht'⟩ Hk
  iapply (wp_copy m K c _ 1 (dev5_eq c) f g hf (D2 c) (D3 c) rfl W) $$ [Hl Hg HO Ht Ht']
  · isplitr; · iexact HR
    isplitl [Hl]; · iexact Hl
    isplitl [Hg]; · iexact Hg
    isplitl [HO]; · iexact HO
    isplitl [Ht]; · iexact Ht
    iexact Ht'
  iintro H
  try unfold WP
  rw [wp_ret]; imodintro
  iapply Hk
  iexact H

abbrev run8 := k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec8 (K : Dev nD × Fin 7 → ℕ) (c : Dev nD) (W : Waits sig Unit) (a b p q r t : BitVec 32) (f g : S4x10x8x64.Idx → Elt F .f32) (hf : Good m c f) {Q} :
    iprop(records m K ∗ owes (c : Thread nD τ) (D3 c) W ∗ (slotPts c (yc c) (lent 2) f ∗ slotPts (nbr 2 c) (yc c) fullShare g ∗ dutyTok ER (sndC c 2) 0 0 ∗ dutyTok ER (rcvC (nbr 2 c) 2) 0 0) ∗ cred (tallyAt (rcvC c 0) () N) ∗ atPos ER (rcvC c 0) 0 ∅ 0)
      ⊢ iprop((∀ x y, (∃ W', owes (c : Thread nD τ) 0 W' ∗ cred (tallyAt (sndC c 2) () N) ∗ atPos ER (rcvC c 0) 1 ∅ 0 ∗ rcvPay m c 0) -∗ Q ⟨x, y⟩)
          -∗ WP c (run8 (F := F) c a b p q r t) Q) := by
  unfold run8 WP
  simp only [k0_part8_eq_skeleton]
  unfold k0_part8_skel
  simp only [Prog.lift, Prog.bind_op, Prog.bind_ret, Prog.pure_eq_ret, wp_deviceId]
  iintro ⟨#HR, HO, ⟨Hl, Hg, Ht, Ht'⟩, Hc, Hat⟩ Hk
  iapply (wp_copy m K c _ 2 (dev6_eq c) f g hf (D3 c) 0 (zero_add _).symm W) $$ [Hl Hg HO Ht Ht']
  · isplitr; · iexact HR
    isplitl [Hl]; · iexact Hl
    isplitl [Hg]; · iexact Hg
    isplitl [HO]; · iexact HO
    isplitl [Ht]; · iexact Ht
    iexact Ht'
  iintro ⟨Hcr, HO⟩
  iapply (wp_landed m K c c 0 W) $$ [Hc HO Hat]
  · isplitr; · iexact HR
    isplitl [Hc]; · iexact Hc
    isplitl [HO]; · iexact HO
    iexact Hat
  iintro ⟨%W', HO, Hat, Hp⟩
  try unfold WP
  rw [wp_ret]; imodintro
  iapply Hk
  iexists W'
  isplitl [HO]; · iexact HO
  isplitl [Hcr]; · iexact Hcr
  isplitl [Hat]; · iexact Hat
  iexact Hp

abbrev run9 := k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec9 (K : Dev nD × Fin 7 → ℕ) (c : Dev nD) (W : Waits sig Unit) (a b p q r : BitVec 32) (f : S4x10x8x64.Idx → Elt F .f32) (hf : Good m c f) {Q} :
    iprop(records m K ∗ owes (c : Thread nD τ) 0 W ∗ (slotPts c (yc c) kept f ∗ rcvPay m c 0) ∗ (cred (tallyAt (rcvC c 1) () N) ∗ atPos ER (rcvC c 1) 0 ∅ 0)
        ∗ (cred (tallyAt (rcvC c 2) () N) ∗ atPos ER (rcvC c 2) 0 ∅ 0))
      ⊢ iprop(((∃ W', owes (c : Thread nD τ) 0 W' ∗ heldAll m c ∗ atPos ER (rcvC c 1) 1 ∅ 0 ∗ atPos ER (rcvC c 2) 1 ∅ 0)
            -∗ Q ⟨k0_pay24 (colM m c 0), k0_pay25 (colM m c 1), k0_pay26 (colM m c 2)⟩)
          -∗ WP c (run9 (F := F) c a b p q r) Q) := by
  unfold run9 WP
  simp only [k0_part9_eq_skeleton]
  unfold k0_part9_skel
  simp only [Prog.lift, Prog.bind_op, Prog.bind_ret, Prog.pure_eq_ret, wp_deviceId]
  unfold colM
  iintro ⟨#HR, HO, ⟨Hs, Hp0⟩, ⟨Hc1, Hat1⟩, ⟨Hc2, Hat2⟩⟩ Hk
  iapply (wp_landed m K c c 1 W) $$ [Hc1 HO Hat1]
  · isplitr; · iexact HR
    isplitl [Hc1]; · iexact Hc1
    isplitl [HO]; · iexact HO
    iexact Hat1
  iintro ⟨%W', HO, Hat1, Hp1⟩
  iapply (wp_landed m K c c 2 W') $$ [Hc2 HO Hat2]
  · isplitr; · iexact HR
    isplitl [Hc2]; · iexact Hc2
    isplitl [HO]; · iexact HO
    iexact Hat2
  iintro ⟨%W2, HO, Hat2, Hp2⟩
  ihave H := (held_gather m c f hf) $$ [Hs Hp0 Hp1 Hp2]
  · isplitl [Hs]; · iexact Hs
    isplitl [Hp0]; · iexact Hp0
    isplitl [Hp1]; · iexact Hp1
    iexact Hp2
  iapply (wp_readStat m c 0 0 _ inb_S4x10x8x64_S1x1x8x8_0_8_0_0 rfl) $$ H
  iintro H
  iapply (wp_readStat m c 1 0 _ inb_S4x10x8x64_S1x1x8x8_1_8_0_0 rfl) $$ H
  iintro H
  iapply (wp_readStat m c 2 0 _ inb_S4x10x8x64_S1x1x8x8_2_8_0_0 rfl) $$ H
  iintro H
  try unfold WP
  rw [wp_ret]; imodintro
  iapply Hk
  iexists W2
  isplitl [HO]; · iexact HO
  isplitl [H]; · iexact H
  isplitl [Hat1]; · iexact Hat1
  iexact Hat2

end Cert.PagedAttn

end
-- ==== Proof.BodyC.lean ====
/-
The kernel's body after the exchange: combining the four slots head by head.
-/
module

public import proofs.«01_k».proof.Proof.BodyB

@[expose] public section

noncomputable section

namespace Cert.PagedAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev run10 := k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec10 (c : Dev nD) {Q} :
    (heldAll m c)
      ⊢ iprop((heldAll m c -∗ Q ⟨scal (colM m c) 0, scal (colM m c) 1, scal (colM m c) 2, scal (colM m c) 3, denom (colM m c) (colL m c), k0_pay34 (k0_pay24 (colM m c 0)) (k0_pay25 (colM m c 1)) (k0_pay26 (colM m c 2)) (colM m c 3) (colO m c 0 0), k0_pay35 (k0_pay24 (colM m c 0)) (k0_pay25 (colM m c 1)) (k0_pay26 (colM m c 2)) (colM m c 3), colO m c 1 0⟩)
          -∗ WP c (run10 (F := F) (k0_pay24 (colM m c 0)) (k0_pay25 (colM m c 1)) (k0_pay26 (colM m c 2))) Q) := by
  unfold run10 WP
  simp only [k0_part10_eq_skeleton]
  unfold k0_part10_skel
  simp only [Prog.lift, Prog.bind_op, Prog.bind_ret, Prog.pure_eq_ret, wp_deviceId]
  simp only [scal, denom]
  unfold colM colL
  iintro H Hk
  iapply (wp_readStat m c 3 0 _ inb_S4x10x8x64_S1x1x8x8_3_8_0_0 rfl) $$ H
  iintro H
  iapply (wp_readStat m c 0 1 _ inb_S4x10x8x64_S1x1x8x8_0_9_0_0 rfl) $$ H
  iintro H
  iapply (wp_readStat m c 1 1 _ inb_S4x10x8x64_S1x1x8x8_1_9_0_0 rfl) $$ H
  iintro H
  iapply (wp_readStat m c 2 1 _ inb_S4x10x8x64_S1x1x8x8_2_9_0_0 rfl) $$ H
  iintro H
  iapply (wp_readStat m c 3 1 _ inb_S4x10x8x64_S1x1x8x8_3_9_0_0 rfl) $$ H
  iintro H
  iapply (wp_readOut m c 0 0 _ inb_S4x10x8x64_S1x1x8x64_0_0_0_0 rfl) $$ H
  iintro H
  iapply (wp_readOut m c 1 0 _ inb_S4x10x8x64_S1x1x8x64_1_0_0_0 rfl) $$ H
  iintro H
  try unfold WP
  rw [wp_ret]; imodintro
  iapply Hk
  iexact H

abbrev run11 := k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec11 (c : Dev nD) {Q} :
    iprop(heldAll m c ∗ outBuf m c 0)
      ⊢ iprop((heldAll m c ∗ outBuf m c 1 -∗ Q ⟨k0_pay37 (scal (colM m c) 0) (scal (colM m c) 1) (colO m c 0 1) (colO m c 1 1), k0_pay38 (scal (colM m c) 2), colO m c 2 1⟩)
          -∗ WP c (run11 (F := F) (scal (colM m c) 0) (scal (colM m c) 1) (scal (colM m c) 2) (scal (colM m c) 3) (denom (colM m c) (colL m c)) (k0_pay34 (k0_pay24 (colM m c 0)) (k0_pay25 (colM m c 1)) (k0_pay26 (colM m c 2)) (colM m c 3) (colO m c 0 0)) (k0_pay35 (k0_pay24 (colM m c 0)) (k0_pay25 (colM m c 1)) (k0_pay26 (colM m c 2)) (colM m c 3)) (colO m c 1 0)) Q) := by
  unfold run11 WP
  simp only [k0_part11_eq_skeleton]
  unfold k0_part11_skel
  simp only [Prog.lift, Prog.bind_op, Prog.bind_ret, Prog.pure_eq_ret, wp_deviceId]
  iintro ⟨H, Ho⟩ Hk
  iapply (wp_readOut m c 2 0 _ inb_S4x10x8x64_S1x1x8x64_2_0_0_0 rfl) $$ H
  iintro H
  iapply (wp_readOut m c 3 0 _ inb_S4x10x8x64_S1x1x8x64_3_0_0_0 rfl) $$ H
  iintro H
  iapply (wp_putHead m c 0 (n := 0) rfl _ inb_S8x1x8x64_S8x1x1x64_0_0_0_0 rfl _ rfl) $$ Ho
  iintro Ho
  iapply (wp_readOut m c 0 1 _ inb_S4x10x8x64_S1x1x8x64_0_1_0_0 rfl) $$ H
  iintro H
  iapply (wp_readOut m c 1 1 _ inb_S4x10x8x64_S1x1x8x64_1_1_0_0 rfl) $$ H
  iintro H
  iapply (wp_readOut m c 2 1 _ inb_S4x10x8x64_S1x1x8x64_2_1_0_0 rfl) $$ H
  iintro H
  try unfold WP
  rw [wp_ret]; imodintro
  iapply Hk
  isplitl [H]; · iexact H
  iexact Ho

abbrev run12 := k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec12 (c : Dev nD) {Q} :
    iprop(heldAll m c ∗ outBuf m c 1)
      ⊢ iprop((heldAll m c ∗ outBuf m c 2 -∗ Q ⟨k0_pay40 (scal (colM m c) 0) (scal (colM m c) 1) (scal (colM m c) 2) (colO m c 0 2) (colO m c 1 2) (colO m c 2 2), k0_pay41 (scal (colM m c) 3), colO m c 3 2⟩)
          -∗ WP c (run12 (F := F) (scal (colM m c) 0) (scal (colM m c) 1) (scal (colM m c) 2) (scal (colM m c) 3) (denom (colM m c) (colL m c)) (k0_pay37 (scal (colM m c) 0) (scal (colM m c) 1) (colO m c 0 1) (colO m c 1 1)) (k0_pay38 (scal (colM m c) 2)) (colO m c 2 1)) Q) := by
  unfold run12 WP
  simp only [k0_part12_eq_skeleton]
  unfold k0_part12_skel
  simp only [Prog.lift, Prog.bind_op, Prog.bind_ret, Prog.pure_eq_ret, wp_deviceId]
  iintro ⟨H, Ho⟩ Hk
  iapply (wp_readOut m c 3 1 _ inb_S4x10x8x64_S1x1x8x64_3_1_0_0 rfl) $$ H
  iintro H
  iapply (wp_putHead m c 1 (n := 1) rfl _ inb_S8x1x8x64_S8x1x1x64_0_0_1_0 rfl _ rfl) $$ Ho
  iintro Ho
  iapply (wp_readOut m c 0 2 _ inb_S4x10x8x64_S1x1x8x64_0_2_0_0 rfl) $$ H
  iintro H
  iapply (wp_readOut m c 1 2 _ inb_S4x10x8x64_S1x1x8x64_1_2_0_0 rfl) $$ H
  iintro H
  iapply (wp_readOut m c 2 2 _ inb_S4x10x8x64_S1x1x8x64_2_2_0_0 rfl) $$ H
  iintro H
  iapply (wp_readOut m c 3 2 _ inb_S4x10x8x64_S1x1x8x64_3_2_0_0 rfl) $$ H
  iintro H
  try unfold WP
  rw [wp_ret]; imodintro
  iapply Hk
  isplitl [H]; · iexact H
  iexact Ho

abbrev run13 := k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec13 (c : Dev nD) {Q} :
    iprop(heldAll m c ∗ outBuf m c 2)
      ⊢ iprop((heldAll m c ∗ outBuf m c 3 -∗ Q (k0_pay43 (scal (colM m c) 0) (scal (colM m c) 1) (scal (colM m c) 2) (scal (colM m c) 3) (denom (colM m c) (colL m c)) (colO m c 0 3) (colO m c 1 3) (colO m c 2 3) (colO m c 3 3)))
          -∗ WP c (run13 (F := F) (scal (colM m c) 0) (scal (colM m c) 1) (scal (colM m c) 2) (scal (colM m c) 3) (denom (colM m c) (colL m c)) (k0_pay40 (scal (colM m c) 0) (scal (colM m c) 1) (scal (colM m c) 2) (colO m c 0 2) (colO m c 1 2) (colO m c 2 2)) (k0_pay41 (scal (colM m c) 3)) (colO m c 3 2)) Q) := by
  unfold run13 WP
  simp only [k0_part13_eq_skeleton]
  unfold k0_part13_skel
  simp only [Prog.lift, Prog.bind_op, Prog.bind_ret, Prog.pure_eq_ret, wp_deviceId]
  iintro ⟨H, Ho⟩ Hk
  iapply (wp_putHead m c 2 (n := 2) rfl _ inb_S8x1x8x64_S8x1x1x64_0_0_2_0 rfl _ rfl) $$ Ho
  iintro Ho
  iapply (wp_readOut m c 0 3 _ inb_S4x10x8x64_S1x1x8x64_0_3_0_0 rfl) $$ H
  iintro H
  iapply (wp_readOut m c 1 3 _ inb_S4x10x8x64_S1x1x8x64_1_3_0_0 rfl) $$ H
  iintro H
  iapply (wp_readOut m c 2 3 _ inb_S4x10x8x64_S1x1x8x64_2_3_0_0 rfl) $$ H
  iintro H
  iapply (wp_readOut m c 3 3 _ inb_S4x10x8x64_S1x1x8x64_3_3_0_0 rfl) $$ H
  iintro H
  try unfold WP
  rw [wp_ret]; imodintro
  iapply Hk
  isplitl [H]; · iexact H
  iexact Ho

abbrev run14 := k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec14 (c : Dev nD) {Q} :
    iprop(heldAll m c ∗ outBuf m c 3)
      ⊢ iprop((heldAll m c ∗ outBuf m c 5 -∗ Q (k0_pay46 (scal (colM m c) 0)))
          -∗ WP c (run14 (F := F) (scal (colM m c) 0) (scal (colM m c) 1) (scal (colM m c) 2) (scal (colM m c) 3) (denom (colM m c) (colL m c)) (k0_pay43 (scal (colM m c) 0) (scal (colM m c) 1) (scal (colM m c) 2) (scal (colM m c) 3) (denom (colM m c) (colL m c)) (colO m c 0 3) (colO m c 1 3) (colO m c 2 3) (colO m c 3 3))) Q) := by
  unfold run14 WP
  simp only [k0_part14_eq_skeleton]
  unfold k0_part14_skel
  simp only [Prog.lift, Prog.bind_op, Prog.bind_ret, Prog.pure_eq_ret, wp_deviceId]
  iintro ⟨H, Ho⟩ Hk
  iapply (wp_putHead m c 3 (n := 3) rfl _ inb_S8x1x8x64_S8x1x1x64_0_0_3_0 rfl _ rfl) $$ Ho
  iintro Ho
  iapply (wp_readOut m c 0 4 _ inb_S4x10x8x64_S1x1x8x64_0_4_0_0 rfl) $$ H
  iintro H
  iapply (wp_readOut m c 1 4 _ inb_S4x10x8x64_S1x1x8x64_1_4_0_0 rfl) $$ H
  iintro H
  iapply (wp_readOut m c 2 4 _ inb_S4x10x8x64_S1x1x8x64_2_4_0_0 rfl) $$ H
  iintro H
  iapply (wp_readOut m c 3 4 _ inb_S4x10x8x64_S1x1x8x64_3_4_0_0 rfl) $$ H
  iintro H
  iapply (wp_putHead m c 4 (n := 4) rfl _ inb_S8x1x8x64_S8x1x1x64_0_0_4_0 rfl _ rfl) $$ Ho
  iintro Ho
  try unfold WP
  rw [wp_ret]; imodintro
  iapply Hk
  isplitl [H]; · iexact H
  iexact Ho

abbrev run15 := k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec15 (c : Dev nD) {Q} :
    iprop(heldAll m c ∗ outBuf m c 5)
      ⊢ iprop((heldAll m c ∗ outBuf m c 6 -∗ Q ⟨k0_pay48 (scal (colM m c) 0) (colO m c 0 6), k0_pay49 (scal (colM m c) 1), colO m c 1 6⟩)
          -∗ WP c (run15 (F := F) (scal (colM m c) 0) (scal (colM m c) 1) (scal (colM m c) 2) (scal (colM m c) 3) (denom (colM m c) (colL m c)) (k0_pay46 (scal (colM m c) 0))) Q) := by
  unfold run15 WP
  simp only [k0_part15_eq_skeleton]
  unfold k0_part15_skel
  simp only [Prog.lift, Prog.bind_op, Prog.bind_ret, Prog.pure_eq_ret, wp_deviceId]
  iintro ⟨H, Ho⟩ Hk
  iapply (wp_readOut m c 0 5 _ inb_S4x10x8x64_S1x1x8x64_0_5_0_0 rfl) $$ H
  iintro H
  iapply (wp_readOut m c 1 5 _ inb_S4x10x8x64_S1x1x8x64_1_5_0_0 rfl) $$ H
  iintro H
  iapply (wp_readOut m c 2 5 _ inb_S4x10x8x64_S1x1x8x64_2_5_0_0 rfl) $$ H
  iintro H
  iapply (wp_readOut m c 3 5 _ inb_S4x10x8x64_S1x1x8x64_3_5_0_0 rfl) $$ H
  iintro H
  iapply (wp_putHead m c 5 (n := 5) rfl _ inb_S8x1x8x64_S8x1x1x64_0_0_5_0 rfl _ rfl) $$ Ho
  iintro Ho
  iapply (wp_readOut m c 0 6 _ inb_S4x10x8x64_S1x1x8x64_0_6_0_0 rfl) $$ H
  iintro H
  iapply (wp_readOut m c 1 6 _ inb_S4x10x8x64_S1x1x8x64_1_6_0_0 rfl) $$ H
  iintro H
  try unfold WP
  rw [wp_ret]; imodintro
  iapply Hk
  isplitl [H]; · iexact H
  iexact Ho

abbrev run16 := k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec16 (c : Dev nD) {Q} :
    iprop(heldAll m c ∗ outBuf m c 6)
      ⊢ iprop((heldAll m c ∗ outBuf m c 7 -∗ Q ⟨k0_pay51 (scal (colM m c) 0) (scal (colM m c) 1) (colO m c 0 7) (colO m c 1 7), k0_pay52 (scal (colM m c) 2), colO m c 2 7⟩)
          -∗ WP c (run16 (F := F) (scal (colM m c) 0) (scal (colM m c) 1) (scal (colM m c) 2) (scal (colM m c) 3) (denom (colM m c) (colL m c)) (k0_pay48 (scal (colM m c) 0) (colO m c 0 6)) (k0_pay49 (scal (colM m c) 1)) (colO m c 1 6)) Q) := by
  unfold run16 WP
  simp only [k0_part16_eq_skeleton]
  unfold k0_part16_skel
  simp only [Prog.lift, Prog.bind_op, Prog.bind_ret, Prog.pure_eq_ret, wp_deviceId]
  iintro ⟨H, Ho⟩ Hk
  iapply (wp_readOut m c 2 6 _ inb_S4x10x8x64_S1x1x8x64_2_6_0_0 rfl) $$ H
  iintro H
  iapply (wp_readOut m c 3 6 _ inb_S4x10x8x64_S1x1x8x64_3_6_0_0 rfl) $$ H
  iintro H
  iapply (wp_putHead m c 6 (n := 6) rfl _ inb_S8x1x8x64_S8x1x1x64_0_0_6_0 rfl _ rfl) $$ Ho
  iintro Ho
  iapply (wp_readOut m c 0 7 _ inb_S4x10x8x64_S1x1x8x64_0_7_0_0 rfl) $$ H
  iintro H
  iapply (wp_readOut m c 1 7 _ inb_S4x10x8x64_S1x1x8x64_1_7_0_0 rfl) $$ H
  iintro H
  iapply (wp_readOut m c 2 7 _ inb_S4x10x8x64_S1x1x8x64_2_7_0_0 rfl) $$ H
  iintro H
  try unfold WP
  rw [wp_ret]; imodintro
  iapply Hk
  isplitl [H]; · iexact H
  iexact Ho

abbrev run17 := k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2

theorem spec17 (K : Dev nD × Fin 7 → ℕ) (c : Dev nD) (W : Waits sig Unit) {Q} :
    iprop(records m K ∗ owes (c : Thread nD τ) 0 W ∗ heldAll m c ∗ outBuf m c 7 ∗ (cred (tallyAt (sndC c 0) () N) ∗ atPos ER (sndC c 0) 0 ∅ 0)
        ∗ (cred (tallyAt (sndC c 1) () N) ∗ atPos ER (sndC c 1) 0 ∅ 0))
      ⊢ iprop(((∃ W', owes (c : Thread nD τ) 0 W' ∗ heldAll m c ∗ outBuf m c 8 ∗ (atPos ER (sndC c 0) 1 ∅ 0 ∗ sndPay c 0) ∗ (atPos ER (sndC c 1) 1 ∅ 0 ∗ sndPay c 1)) -∗ Q ⟨⟩)
          -∗ WP c (run17 (F := F) c (scal (colM m c) 3) (denom (colM m c) (colL m c)) (k0_pay51 (scal (colM m c) 0) (scal (colM m c) 1) (colO m c 0 7) (colO m c 1 7)) (k0_pay52 (scal (colM m c) 2)) (colO m c 2 7)) Q) := by
  unfold run17 WP
  simp only [k0_part17_eq_skeleton]
  unfold k0_part17_skel
  simp only [Prog.lift, Prog.bind_op, Prog.bind_ret, Prog.pure_eq_ret, wp_deviceId]
  iintro ⟨#HR, HO, H, Ho, ⟨Hc0, Hat0⟩, ⟨Hc1, Hat1⟩⟩ Hk
  iapply (wp_readOut m c 3 7 _ inb_S4x10x8x64_S1x1x8x64_3_7_0_0 rfl) $$ H
  iintro H
  iapply (wp_putHead m c 7 (n := 7) rfl _ inb_S8x1x8x64_S8x1x1x64_0_0_7_0 rfl _ rfl) $$ Ho
  iintro Ho
  iapply (wp_sent m K c c 0 W) $$ [Hc0 HO Hat0]
  · isplitr; · iexact HR
    isplitl [Hc0]; · iexact Hc0
    isplitl [HO]; · iexact HO
    iexact Hat0
  iintro ⟨%W', HO, Hat0⟩
  iapply (wp_sent m K c c 1 W') $$ [Hc1 HO Hat1]
  · isplitr; · iexact HR
    isplitl [Hc1]; · iexact Hc1
    isplitl [HO]; · iexact HO
    iexact Hat1
  iintro ⟨%W2, HO, Hat1⟩
  try unfold WP
  rw [wp_ret]; imodintro
  iapply Hk
  iexists W2
  isplitl [HO]; · iexact HO
  isplitl [H]; · iexact H
  isplitl [Ho]; · iexact Ho
  isplitl [Hat0]; · iexact Hat0
  iexact Hat1

end Cert.PagedAttn

end
-- ==== Proof.BodyRun.lean ====
/-
The kernel's body as a whole: from the launch's resources to the result, with every semaphore back at zero.
-/
module

public import proofs.«01_k».proof.Proof.BodyC

@[expose] public section

noncomputable section

namespace Cert.PagedAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem body_run (K : Dev nD × Fin 7 → ℕ) (c : Dev nD) (W : Waits sig Unit) {Q : PUnit → sProp 𝕄} :
    iprop(records m K ∗ places c ∗ payToks c ∗ credits c ∗ levAts L lv ∗ bufAny c ∗ owes (c : Thread nD τ) (O₀ c) W ∗ operands m c
        ∗ (∃ f, ((c : Thread nD τ).loc cc0_stg5_0) ↦{fullShare} f))
      ⊢ iprop(((∃ W', owes (c : Thread nD τ) 0 W' ∗ operands m c ∗ bufAny c ∗ closed c ∗ (((c : Thread nD τ).loc cc0_stg5_0) ↦{fullShare} outAt m c)) -∗ Q ⟨⟩)
          -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Q) := by
  simp only [cc0_body_eq_skeleton]
  unfold cc0_body_skel WP
  simp only [wp_bind]
  unfold places payToks credits bufAny
  iintro ⟨#HR, ⟨AB, ⟨AS0, AS1, AS2⟩, AR0, AR1, AR2⟩, ⟨⟨TB0, TB1, TB2⟩, ⟨TS0, TS1, TS2⟩, TR0, TR1, TR2⟩, ⟨CB, CR0, CR1, CR2⟩, #HL, ⟨%f, Hx⟩, HO, Hin, ⟨%fo, Hout⟩⟩ Hk
  ihave Hx := (Entails.of_eq (buf_cut c f)) $$ Hx
  icases Hx with ⟨X, X0, X1, X2⟩
  iapply (spec1 m K c W f) $$ [HO TB0 X0]
  · isplitr; · iexact HR
    isplitl [HO]; · iexact HO
    isplitl [TB0]; · iexact TB0
    iexact X0
  iintro %a %b %d %e %g HO
  iapply (spec2 m K c W f f a b d e g 0#32) $$ [HO TB1 X1 TB2 X2 Hin]
  · isplitr; · iexact HR
    isplitl [HO]; · iexact HO
    isplitl [TB1 X1]; · (isplitl [TB1] <;> iassumption)
    isplitl [TB2 X2]; · (isplitl [TB2] <;> iassumption)
    iexact Hin
  iintro ⟨HO, Hin⟩
  iapply (spec3 m c) $$ Hin
  iintro Hin
  ihave X := (ownSlot_zero m c f) $$ X
  iapply (spec4 m c) $$ X
  iintro X
  iapply (spec5 m c) $$ X
  iintro X
  iapply (spec6 m K c W a b) $$ [X CB HO AB TS0 TR0]
  · isplitr; · iexact HR
    isplitl [X]; · iexact X
    isplitl [CB]; · iexact CB
    isplitl [HO]; · iexact HO
    isplitr; · iexact HL
    isplitl [AB]; · iexact AB
    isplitl [TS0] <;> iassumption
  iintro %p %q %r %s %t ⟨%W1, %fs, %hf, HO, AB, Xk, X1, X2, CS0, ⟨%g1, G1⟩, ⟨%g2, G2⟩⟩
  iapply (spec7 m K c W1 a b q r s t fs g1 hf) $$ [HO X1 G1 TS1 TR1]
  · isplitr; · iexact HR
    isplitl [HO]; · iexact HO
    isplitl [X1]; · iexact X1
    isplitl [G1]; · iexact G1
    isplitl [TS1]; · iexact TS1
    iexact TR1
  iintro %x %y ⟨CS1, HO⟩
  iapply (spec8 m K c W1 a b p x y 16#32 fs g2 hf) $$ [HO X2 G2 TS2 TR2 CR0 AR0]
  · isplitr; · iexact HR
    isplitl [HO]; · iexact HO
    isplitl [X2 G2 TS2 TR2]
    · isplitl [X2]; · iexact X2
      isplitl [G2]; · iexact G2
      isplitl [TS2] <;> iassumption
    isplitl [CR0] <;> iassumption
  iintro %u %v ⟨%W2, HO, CS2, AR0, P0⟩
  iapply (spec9 m K c W2 a b y u v fs hf) $$ [HO Xk P0 CR1 AR1 CR2 AR2]
  · isplitr; · iexact HR
    isplitl [HO]; · iexact HO
    isplitl [Xk P0]; · (isplitl [Xk] <;> iassumption)
    isplitl [CR1 AR1]; · (isplitl [CR1] <;> iassumption)
    isplitl [CR2] <;> iassumption
  iintro ⟨%W3, HO, H, AR1, AR2⟩
  iapply (spec10 m c) $$ H
  iintro H
  ihave Ho : outBuf m c 0 $$ [Hout]
  · unfold outBuf
    iexists fo
    isplitr; · (ipureintro; exact fun i h => absurd h (Nat.not_lt_zero _))
    iexact Hout
  iapply (spec11 m c) $$ [H Ho]
  · isplitl [H] <;> iassumption
  iintro ⟨H, Ho⟩
  iapply (spec12 m c) $$ [H Ho]
  · isplitl [H] <;> iassumption
  iintro ⟨H, Ho⟩
  iapply (spec13 m c) $$ [H Ho]
  · isplitl [H] <;> iassumption
  iintro ⟨H, Ho⟩
  iapply (spec14 m c) $$ [H Ho]
  · isplitl [H] <;> iassumption
  iintro ⟨H, Ho⟩
  iapply (spec15 m c) $$ [H Ho]
  · isplitl [H] <;> iassumption
  iintro ⟨H, Ho⟩
  iapply (spec16 m c) $$ [H Ho]
  · isplitl [H] <;> iassumption
  iintro ⟨H, Ho⟩
  iapply (spec17 m K c W3) $$ [HO H Ho CS0 AS0 CS1 AS1]
  · isplitr; · iexact HR
    isplitl [HO]; · iexact HO
    isplitl [H]; · iexact H
    isplitl [Ho]; · iexact Ho
    isplitl [CS0 AS0]; · (isplitl [CS0] <;> iassumption)
    isplitl [CS1] <;> iassumption
  iintro ⟨%W4, HO, H, Ho, ⟨AS0, S0⟩, ⟨AS1, S1⟩⟩
  simp only [Prog.lift, Prog.bind_op, Prog.bind_ret, Prog.pure_eq_ret]
  iapply (wp_sent m K c c 2 W4) $$ [HO CS2 AS2]
  · isplitr; · iexact HR
    isplitl [CS2]; · iexact CS2
    isplitl [HO]; · iexact HO
    iexact AS2
  iintro ⟨%W5, HO, AS2, S2⟩
  imod (Rounds.cell_close ER (plan m) (Set.mem_univ (K (c, 0))) (fun h => h) (R := 0 + 1) (duties_later m (barC c))) $$ [AB] with ZB
  · isplitr; · iapply (inv_bar m K c); iexact HR
    iexact AB
  imod (Rounds.cell_close ER (plan m) (Set.mem_univ (K (c, iS 0))) (fun h => h) (R := 0 + 1) (duties_later m (sndC c 0))) $$ [AS0] with ZS0
  · isplitr; · iapply (inv_snd m K c 0); iexact HR
    iexact AS0
  imod (Rounds.cell_close ER (plan m) (Set.mem_univ (K (c, iR 0))) (fun h => h) (R := 0 + 1) (duties_later m (rcvC c 0))) $$ [AR0] with ZR0
  · isplitr; · iapply (inv_rcv m K c 0); iexact HR
    iexact AR0
  imod (Rounds.cell_close ER (plan m) (Set.mem_univ (K (c, iS 1))) (fun h => h) (R := 0 + 1) (duties_later m (sndC c 1))) $$ [AS1] with ZS1
  · isplitr; · iapply (inv_snd m K c 1); iexact HR
    iexact AS1
  imod (Rounds.cell_close ER (plan m) (Set.mem_univ (K (c, iR 1))) (fun h => h) (R := 0 + 1) (duties_later m (rcvC c 1))) $$ [AR1] with ZR1
  · isplitr; · iapply (inv_rcv m K c 1); iexact HR
    iexact AR1
  imod (Rounds.cell_close ER (plan m) (Set.mem_univ (K (c, iS 2))) (fun h => h) (R := 0 + 1) (duties_later m (sndC c 2))) $$ [AS2] with ZS2
  · isplitr; · iapply (inv_snd m K c 2); iexact HR
    iexact AS2
  imod (Rounds.cell_close ER (plan m) (Set.mem_univ (K (c, iR 2))) (fun h => h) (R := 0 + 1) (duties_later m (rcvC c 2))) $$ [AR2] with ZR2
  · isplitr; · iapply (inv_rcv m K c 2); iexact HR
    iexact AR2
  try unfold WP
  rw [wp_ret]; imodintro
  ihave Hx := ((held_scatter m c).trans (Entails.of_eq (show (bufAny c : sProp 𝕄) = iprop(∃ f, ((c : Thread nD τ).loc cc0_scratch0) ↦{fullShare} f) from rfl))) $$ [H S0 S1 S2]
  · isplitl [H]; · iexact H
    isplitl [S0]; · iexact S0
    isplitl [S1] <;> iassumption
  unfold outBuf
  icases Ho with ⟨%fd, %hd, Ho⟩
  have hd' := Done.all m hd
  subst hd'
  rw [wp_ret]; imodintro
  iapply Hk
  iexists W5
  unfold closed
  isplitl [HO]; · iexact HO
  isplitl [Hin]; · iexact Hin
  isplitl [Hx]; · iexact Hx
  isplitr [Ho]
  · isplitl [ZB]; · iexact ZB
    isplitl [ZS0 ZS1 ZS2]
    · isplitl [ZS0]; · iexact ZS0
      isplitl [ZS1] <;> iassumption
    isplitl [ZR0]; · iexact ZR0
    isplitl [ZR1] <;> iassumption
  iexact Ho

end Cert.PagedAttn

end
-- ==== Proof.Launch.lean ====
/-
The launch: the protocol's ghost state is set up on every device, the body runs, and the whole program's run follows.
-/
module

public import proofs.«01_k».proof.Proof.BodyRun
public import proofs.«01_k».proof.Proof.Gen.KernelIdeal.Frame
public import Idealize.ShloMosaic.Lib.Pipeline.Kit
public import Idealize.ShloMosaic.Lib.Pipeline.CollectiveSegs

@[expose] public section

noncomputable section

namespace Cert.PagedAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What the pipeline hands the body -/

/-- Before the body: the protocol's start and the exchange buffer; after it, the buffer and the seven cells closed. -/
def Φ₀ (c : Dev nD) : sProp 𝕄 := iprop(start m c ∗ bufAny c)
def Φ₁ (c : Dev nD) : sProp 𝕄 := iprop(bufAny c ∗ closed c)

def dats (_ : Fin 1) (c : Dev nD) : Dat τ (Elt F) Unit ℕ UU ℕ cfg0 c where
  A w := m ((cfg0.win w).arr.view.loc (c : Thread nD τ))
  after w _ := match w with
    | ⟨0, _⟩ => qIn m c
    | ⟨1, _⟩ => kIn m c
    | ⟨2, _⟩ => vIn m c
    | ⟨3, _⟩ => btIn m c
    | ⟨4, _⟩ => lenIn m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- What the pipeline has staged when the body starts: the operands' blocks. -/
theorem before_q (c : Dev nD) (t : Fin cfg0.N) (d) : (dats m 0 c).before 0 t d = qIn m c := by
  rw [fin_N0 t]; exact (dats m 0 c).before_in_eq_fetched 0 rfl (fun _ => rfl) (fun _ _ _ => rfl) (fun t => by rw [fin_N0 t]; rfl) t0_0 d
theorem before_k (c : Dev nD) (t : Fin cfg0.N) (d) : (dats m 0 c).before 1 t d = kIn m c := by
  rw [fin_N0 t]; exact (dats m 0 c).before_in_eq_fetched 1 rfl (fun _ => rfl) (fun _ _ _ => rfl) (fun t => by rw [fin_N0 t]; rfl) t0_0 d
theorem before_v (c : Dev nD) (t : Fin cfg0.N) (d) : (dats m 0 c).before 2 t d = vIn m c := by
  rw [fin_N0 t]; exact (dats m 0 c).before_in_eq_fetched 2 rfl (fun _ => rfl) (fun _ _ _ => rfl) (fun t => by rw [fin_N0 t]; rfl) t0_0 d
theorem before_bt (c : Dev nD) (t : Fin cfg0.N) (d) : (dats m 0 c).before 3 t d = btIn m c := by
  rw [fin_N0 t]; exact (dats m 0 c).before_in_eq_fetched 3 rfl (fun _ => rfl) (fun _ _ _ => rfl) (fun t => by rw [fin_N0 t]; rfl) t0_0 d
theorem before_len (c : Dev nD) (t : Fin cfg0.N) (d) : (dats m 0 c).before 4 t d = lenIn m c := by
  rw [fin_N0 t]; exact (dats m 0 c).before_in_eq_fetched 4 rfl (fun _ => rfl) (fun _ _ _ => rfl) (fun t => by rw [fin_N0 t]; rfl) t0_0 d

/-- A whole buffer at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

def bodyPre (c : Dev nD) : sProp 𝕄 :=
  iprop(Φ₀ m c ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))
def bodyPost (c : Dev nD) : sProp 𝕄 :=
  iprop(Φ₁ c ∗ (dats m 0 c).owesAt () t0_0.succ ∗ stg c cc0_stg0_0 (qIn m c) ∗ stg c cc0_stg1_0 (kIn m c) ∗ stg c cc0_stg2_0 (vIn m c)
    ∗ stg c cc0_stg3_0 (btIn m c) ∗ stg c cc0_stg4_0 (lenIn m c) ∗ stg c cc0_stg5_0 (outAt m c))

/-- The body from what the pipeline hands it to what the pipeline expects back. -/
theorem body_between (c : Dev nD) : bodyPre m c ⊢ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) (fun _ => bodyPost m c) := by
  unfold bodyPre Φ₀ start Dat.owesAt Pipeline.owesWithin
  rw [show (dats m 0 c).owed t0_0.castSucc = O₀ c from rfl]
  iintro ⟨⟨⟨⟨%K, #HR, HP, HT⟩, HC, #HL⟩, Hb⟩, ⟨%W, %hW, HO⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  rw [before_q] at e0; rw [before_k] at e1; rw [before_v] at e2; rw [before_bt] at e3; rw [before_len] at e4
  subst e0 e1 e2 e3 e4
  iapply (body_run m K c W) $$ [HP HT HC Hb HO H0 H1 H2 H3 H4 H5]
  · isplitr; · iexact HR
    isplitl [HP]; · iexact HP
    isplitl [HT]; · iexact HT
    isplitl [HC]; · iexact HC
    isplitr; · iexact HL
    isplitl [Hb]; · iexact Hb
    isplitl [HO]; · iexact HO
    isplitr [H5]
    · unfold operands
      isplitl [H0]; · iexact H0
      isplitl [H1]; · iexact H1
      isplitl [H2]; · iexact H2
      isplitl [H3] <;> iassumption
    iexists f5; iexact H5
  unfold operands
  iintro ⟨%W', HO, ⟨H0, H1, H2, H3, H4⟩, Hb, Hc, H5⟩
  unfold bodyPost Φ₁ Dat.owesAt Pipeline.owesWithin
  rw [show (dats m 0 c).owed t0_0.succ = 0 from rfl]
  isplitl [Hb Hc]; · (isplitl [Hb] <;> iassumption)
  isplitl [HO]
  · iexists W'
    isplitr; · (ipureintro; exact fun _ _ => Or.inl trivial)
    iexact HO
  isplitl [H0]
  · iexists (qIn m c); isplitr; · (ipureintro; rfl)
    iexact H0
  isplitl [H1]
  · iexists (kIn m c); isplitr; · (ipureintro; rfl)
    iexact H1
  isplitl [H2]
  · iexists (vIn m c); isplitr; · (ipureintro; rfl)
    iexact H2
  isplitl [H3]
  · iexists (btIn m c); isplitr; · (ipureintro; rfl)
    iexact H3
  isplitl [H4]
  · iexists (lenIn m c); isplitr; · (ipureintro; rfl)
    iexact H4
  iexists (outAt m c); isplitr; · (ipureintro; rfl)
  iexact H5

set_option maxRecDepth 4000 in
theorem body_obligation (c : Dev nD) : BodyObligation (dats (F := F) m 0 c) (defs₀ (F := F)) 𝒱₀ () Set.univ := fun t => by
  rw [fin_N0 t]
  have e (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ
  rw [e, e]
  simp only [owns_whole]
  exact body_between m c

/-! ## The launch -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective (kcell : Dev nD × Fin 7 → GSem nD τ sig) := by
  rintro ⟨c, k⟩ ⟨c', k'⟩ h
  have h1 : c = c' := congrArg (fun g : GSem nD τ sig => g.1.1) h
  exact Prod.ext h1 (csem_injective (congrArg Prod.snd h))
def planCells : Finset (GSem nD τ sig) := Finset.univ.map ⟨kcell, kcell_injective⟩

/-- A device's own cells' nine duties: its barrier's three, and one of each other cell. -/
abbrev tokSem : Fin 9 → Fin 7 × Fin 3
  | 0 => (0, 0) | 1 => (0, 1) | 2 => (0, 2) | 3 => (1, 0) | 4 => (2, 0) | 5 => (3, 0) | 6 => (4, 0) | 7 => (5, 0) | 8 => (6, 0)
abbrev tokOf (cj : Dev nD × Fin 9) : GSem nD τ sig × ℕ × Fin 3 := (kcell (cj.1, (tokSem cj.2).1), 0, (tokSem cj.2).2)
theorem tokSem_injective : Function.Injective tokSem := by decide
theorem tokOf_injective : Function.Injective (tokOf : Dev nD × Fin 9 → GSem nD τ sig × ℕ × Fin 3) := by
  rintro ⟨c, j⟩ ⟨c', j'⟩ h
  have h1 := kcell_injective (congrArg Prod.fst h)
  have h2 : (tokSem j).2 = (tokSem j').2 := congrArg (fun x : GSem nD τ sig × ℕ × Fin 3 => x.2.2) h
  exact Prod.ext (congrArg (fun x : Dev nD × Fin 7 => x.1) h1) (tokSem_injective (Prod.ext (congrArg (fun x : Dev nD × Fin 7 => x.2) h1) h2))
def planToks : Finset (GSem nD τ sig × ℕ × Fin 3) := Finset.univ.map ⟨tokOf, tokOf_injective⟩

def u₀ : UU := (initOf (Pipeline.cells cfgs cellOf_inj) (Pipeline.launchToks cfgs cellOf_inj), initOf planCells planToks)

/-- The duty tokens of device `c`'s own cells. -/
def toks (c : Dev nD) : sProp 𝕄 :=
  iprop((dutyTok ER (barC c) 0 0 ∗ dutyTok ER (barC c) 0 1 ∗ dutyTok ER (barC c) 0 2)
    ∗ (dutyTok ER (sndC c 0) 0 0 ∗ dutyTok ER (sndC c 1) 0 0 ∗ dutyTok ER (sndC c 2) 0 0)
    ∗ (dutyTok ER (rcvC c 0) 0 0 ∗ dutyTok ER (rcvC c 1) 0 0 ∗ dutyTok ER (rcvC c 2) 0 0))

/-- What the launch deals device `c`, and what it holds once the invariants stand. -/
def G (c : Dev nD) : sProp 𝕄 :=
  iprop((bigSep Finset.univ fun k : Fin 7 => roundState ER (plan m) (kcell (c, k)) 0)
    ∗ (bigSep Finset.univ fun k : Fin 7 => iprop(atPos ER (kcell (c, k)) 0 ∅ 0 ∗ reached ER (kcell (c, k)) 0)) ∗ toks c)
def G' (c : Dev nD) : sProp 𝕄 := iprop(∃ K, records m K ∗ places c ∗ payToks c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem sep_flat (P Q R : sProp 𝕄) : iprop((P ∗ Q) ∗ R) = iprop(P ∗ Q ∗ R) := equiv_iff.mp ⟨BI.sep_assoc, BI.sep_assoc'⟩

theorem toks_eq (c : Dev nD) : (bigSep Finset.univ fun j : Fin 9 => (dutyTok ER (tokOf (c, j)).1 (tokOf (c, j)).2.1 (tokOf (c, j)).2.2 : sProp 𝕄)) = toks c := by
  rw [bigSep_fin9]; unfold toks
  simp only [sep_flat]

theorem fund : BI.own (ER (initOf planCells planToks)) ⊢ (|==> bigSep Finset.univ (G m) : sProp 𝕄) := by
  have hX (Φ : GSem nD τ sig → sProp 𝕄) : bigSep planCells Φ = bigSep Finset.univ fun c : Dev nD => bigSep Finset.univ fun k : Fin 7 => Φ (kcell (c, k)) := by
    unfold planCells; rw [bigSep_map, bigSep_univ_prod]; rfl
  have hT : bigSep planToks (fun x => (dutyTok ER x.1 x.2.1 x.2.2 : sProp 𝕄)) = bigSep Finset.univ fun c : Dev nD => toks c := by
    unfold planToks; rw [bigSep_map, bigSep_univ_prod]
    exact bigSep_congr fun c _ => toks_eq c
  iintro HX
  imod (Rounds.fund ER (plan m) planCells planToks) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(semVal (sndC c 0) 0 ∗ semVal (sndC c 1) 0 ∗ semVal (sndC c 2) 0 ∗ semVal (rcvC c 0) 0 ∗ semVal (rcvC c 1) 0 ∗ semVal (rcvC c 2) 0) := by
  rw [Pipeline.ownSems0_eq_of_list c osem [0, 1, 2, 3, 4, 5] (by decide) (by decide)]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_all (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨H, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_all (F := F) c) $$ [Hos Hus]
  · isplitl [Hos] <;> iassumption
  imod (show iprop((bigSep Finset.univ fun k : Fin 7 => semVal (kcell (c, k)) 0) ∗ bigSep Finset.univ fun k : Fin 7 => roundState ER (plan m) (kcell (c, k)) 0)
      ⊢ (|={Set.univ}=> bigSep Finset.univ fun k => iprop(∃ κ : ℕ, cellInv ER (plan m) κ (kcell (c, k))) : sProp 𝕄) from by
        rw [← bigSep_sep']
        exact (bigSep_mono fun k _ => (Rounds.body_intro ER (plan m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Duties on a device's barrier and receive cells go to the neighbour that pays them. -/
theorem toks_around : (bigSep Finset.univ fun c : Dev nD => (toks c : sProp 𝕄)) ⊢ bigSep Finset.univ fun c : Dev nD => payToks c := by
  unfold toks payToks
  simp only [bigSep_sep']
  rw [bigSep_univ_equiv (turn 0) (fun c : Dev nD => (dutyTok ER (barC c) 0 0 : sProp 𝕄)),
    bigSep_univ_equiv (turn 1) (fun c : Dev nD => (dutyTok ER (barC c) 0 1 : sProp 𝕄)),
    bigSep_univ_equiv (turn 2) (fun c : Dev nD => (dutyTok ER (barC c) 0 2 : sProp 𝕄)),
    bigSep_univ_equiv (turn 0) (fun c : Dev nD => (dutyTok ER (rcvC c 0) 0 0 : sProp 𝕄)),
    bigSep_univ_equiv (turn 1) (fun c : Dev nD => (dutyTok ER (rcvC c 1) 0 0 : sProp 𝕄)),
    bigSep_univ_equiv (turn 2) (fun c : Dev nD => (dutyTok ER (rcvC c 2) 0 0 : sProp 𝕄))]
  exact BI.Entails.refl _

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem places_eq (c : Dev nD) : (bigSep Finset.univ fun k : Fin 7 => (atPos ER (kcell (c, k)) 0 ∅ 0 : sProp 𝕄)) = places c := by
  rw [bigSep_fin7]; unfold places
  simp only [sep_flat]

theorem regroup :
    (bigSep Finset.univ fun c : Dev nD => iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 7 => iprop(∃ κ : ℕ, cellInv ER (plan m) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄)),
    bigSep_congr (s := Finset.univ) (fun (c : Dev nD) _ => places_eq (F := F) c)]
  iintro ⟨HI, ⟨Hat, #HR⟩, Htok⟩
  ihave HK := (BI.bigSep_exists_pi Finset.univ (fun (ck : Dev nD × Fin 7) (κ : ℕ) => (cellInv ER (plan m) κ (kcell ck) : sProp 𝕄))) $$ HI
  icases HK with ⟨%K, #HI⟩
  ihave Htk := (toks_around (F := F)) $$ Htok
  iapply (with_persistent (R := records m K) (Φ := fun c => iprop(places c ∗ payToks c)) (Ψ := G' m) fun c _ => by
    unfold G'
    iintro ⟨#HR, HP⟩
    iexists K
    isplitr; · iexact HR
    iexact HP)
  isplitr
  · unfold records; isplitl; · iexact HI
    iexact HR
  · iapply (Entails.of_eq (bigSep_sep' Finset.univ (fun c : Dev nD => (places c : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem cell_dev {a b : Dev nD} {s t : SemLoc sig} (h : ((a : Thread nD τ), s) = (((b : Thread nD τ), t) : GSem nD τ sig)) : a = b :=
  congrArg (fun g : GSem nD τ sig => g.1.1) h

theorem tally_nbr (s : SemLoc sig) (k : Fin 3) (d c : Dev nD) (n : ℕ) :
    (tallyAt ((nbr k d : Thread nD τ), s) () n : CellTallies nD τ sig Unit) ((c : Thread nD τ), s) () = if d = nbr (back k) c then n else 0 := by
  rw [tallyAt_apply]
  by_cases h : d = nbr (back k) c
  · subst h; rw [nbr_back', if_pos ⟨rfl, rfl⟩, if_pos rfl]
  · rw [if_neg (fun ⟨h1, _⟩ => h (by rw [← nbr_back k d]; exact congrArg _ (cell_dev h1).symm)), if_neg h]
theorem tally_other {a b : Dev nD} {s t : SemLoc sig} (h : t ≠ s) (n : ℕ) :
    (tallyAt ((a : Thread nD τ), s) () n : CellTallies nD τ sig Unit) ((b : Thread nD τ), t) () = 0 := by
  rw [tallyAt_apply, if_neg (fun h' => h (congrArg Prod.snd h'.1))]

/-- What device `d` owes the barrier of device `c`, and its receive cells. -/
theorem owed_bar (d c : Dev nD) : O₀ d (barC c) () = (if d = nbr (back 2) c then 1 else 0) + (if d = nbr (back 1) c then 1 else 0) + (if d = nbr (back 0) c then 1 else 0) := by
  unfold O₀ B1 B2 D1 D2 D3
  simp only [Pi.add_apply, Finsupp.add_apply, tally_nbr, tally_other (rcv_ne_bar _).symm]
  simp only [Nat.zero_add]
theorem owed_rcv (d c : Dev nD) (k : Fin 3) : O₀ d (rcvC c k) () = if d = nbr (back k) c then N else 0 := by
  unfold O₀ B1 B2 D1 D2 D3
  simp only [Pi.add_apply, Finsupp.add_apply, tally_other (rcv_ne_bar _), Nat.add_zero]
  have h (j : Fin 3) (e : k ≠ j) := tally_other (a := nbr j d) (b := c) (s := .dma (rcvS j)) (t := .dma (rcvS k)) (fun h => e (rcv_inj _ _ h)) N
  match k with
  | 0 => rw [h 1 (by decide), h 2 (by decide), tally_nbr]; simp only [Nat.zero_add]
  | 1 => rw [h 0 (by decide), h 2 (by decide), tally_nbr]; simp only [Nat.zero_add, Nat.add_zero]
  | 2 => rw [h 0 (by decide), h 1 (by decide), tally_nbr]; simp only [Nat.add_zero]

theorem launch_bar (c : Dev nD) :
    tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib]
  simp only [Finset.sum_ite_eq', Finset.mem_univ, if_true]
theorem launch_rcv (c : Dev nD) (k : Fin 3) :
    tallyOn (rcvC c k) (launchCredit (Pipeline.owing O₀) 0 (rcvC c k)) = (tallyAt (rcvC c k) () N : CellTallies nD τ sig Unit) := by
  unfold tallyAt; refine congrArg _ (Finsupp.ext fun u => ?_); cases u
  rw [Pipeline.launchCredit_owing, Finsupp.single_eq_same, Finset.sum_congr rfl fun d _ => owed_rcv d c k, Finset.sum_ite_eq' Finset.univ _ fun _ => N,
    if_pos (Finset.mem_univ _)]

theorem creds (c : Dev nD) : (Pipeline.launchCred O₀ c : sProp 𝕄) ⊢ credits c := by
  unfold Pipeline.launchCred credits
  rw [bigSep_univ_at _ (SemLoc.reg barS), launch_bar]
  refine sep_mono_right ?_
  let f : Fin 3 ↪ SemLoc sig := ⟨fun k => SemLoc.dma (rcvS k), fun _ _ h => rcv_inj _ _ h⟩
  have hs : (Finset.univ : Finset (Fin 3)).map f ⊆ Finset.univ.erase (SemLoc.reg barS) := by decide
  refine (BI.bigSep_subset hs).trans ?_
  rw [bigSep_map, bigSep_univ_eq_bigSepL [0, 1, 2] (by decide) (by decide)]
  rw [← launch_rcv c 0, ← launch_rcv c 1, ← launch_rcv c 2]
  exact BI.Entails.refl _

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ bufAny
  iintro ⟨Hs, -, Hr⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ bufAny closed
  iintro ⟨Hr, HB, ⟨H0, H1, H2⟩, H3, H4, H5⟩
  isplitl [HB]; · iexact HB
  isplitr [Hr]
  · isplitl [H0]; · iexact H0
    isplitl [H1]; · iexact H1
    isplitl [H2]; · iexact H2
    isplitl [H3]; · iexact H3
    isplitl [H4] <;> iassumption
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- Every weakly fair execution of the kernel on its thirty-two devices, for any float values and from any memory with
    zero counters, terminates, leaves each window's array at its computed contents and every semaphore at zero. -/
theorem run_arrays (ρ : Dev nD → PrngReg) : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.PagedAttn

end
-- ==== Proof.Frames.lean ====
/-
What a run leaves behind: the argument arrays as they were, the result array at the computed contents.
-/
module

public import proofs.«01_k».proof.Proof.Launch

@[expose] public section

noncomputable section

namespace Cert.PagedAttn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- An argument array is one the kernel only reads: it ends as it began. -/
theorem final_in (c : Dev nD) (w : Fin cfg0.W) (h : (cfg0.win w).isOut = false) : finalA m c w = m ((cfg0.win w).arr.view.loc (c : Thread nD τ)) :=
  (dats (F := F) m 0 c).arrAt_in w h _

/-- Every window's one block is its whole array. -/
theorem blk_q (X : main_arg0.ty.Contents (Elt F)) : (win0_0.blk (0 : Fin 1)).view.read (Elt F) X = X :=
  Memref.read_access_unit_zero (Elt F) main_arg0 (funext fun a => by fin_cases a <;> decide) (fun a => by fin_cases a <;> decide) X
theorem blk_k (X : main_arg1.ty.Contents (Elt F)) : (win0_1.blk (0 : Fin 1)).view.read (Elt F) X = X :=
  Memref.read_access_unit_zero (Elt F) main_arg1 (funext fun a => by fin_cases a <;> decide) (fun a => by fin_cases a <;> decide) X
theorem blk_v (X : main_arg2.ty.Contents (Elt F)) : (win0_2.blk (0 : Fin 1)).view.read (Elt F) X = X :=
  Memref.read_access_unit_zero (Elt F) main_arg2 (funext fun a => by fin_cases a <;> decide) (fun a => by fin_cases a <;> decide) X
theorem blk_bt (X : main_arg3.ty.Contents (Elt F)) : (win0_3.blk (0 : Fin 1)).view.read (Elt F) X = X :=
  Memref.read_access_unit_zero (Elt F) main_arg3 (funext fun a => by fin_cases a <;> decide) (fun a => by fin_cases a <;> decide) X
theorem blk_len (X : main_arg4.ty.Contents (Elt F)) : (win0_4.blk (0 : Fin 1)).view.read (Elt F) X = X :=
  Memref.read_access_unit_zero (Elt F) main_arg4 (funext fun a => by fin_cases a <;> decide) (fun a => by fin_cases a <;> decide) X
theorem blk_out (X : main_v1.ty.Contents (Elt F)) : (win0_5.blk (0 : Fin 1)).view.read (Elt F) X = X :=
  Memref.read_access_unit_zero (Elt F) main_v1 (funext fun a => by fin_cases a <;> decide) (fun a => by fin_cases a <;> decide) X

theorem final_out (c : Dev nD) : finalA m c (5 : Fin 6) = outAt m c := by
  refine (blk_out _).symm.trans ?_
  unfold finalA
  rw [show cfg0.N = ((0 : Fin 1) : Fin cfg0.N).val + 1 from rfl, (dats m 0 c).arrAt_succ (5 : Fin 6) (0 : Fin 1)]
  rw [show (cfg0.win (5 : Fin 6)).flush (0 : Fin 1) = true from by decide, if_pos rfl]
  exact View.read_write_univ _ _

/-- The run in full: on every device the result array ends at `outAt`, the arguments as they were, every counter at zero. -/
theorem run_main (ρ : Dev nD → PrngReg) : θ_run defs (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  (θ_run defs _ _).mono (fun _ h => ⟨fun c => ⟨(h.1 c (5 : Fin 6)).trans (final_out m c), (h.1 c (0 : Fin 6)).trans (final_in m c (0 : Fin 6) rfl),
    (h.1 c (1 : Fin 6)).trans (final_in m c (1 : Fin 6) rfl), (h.1 c (2 : Fin 6)).trans (final_in m c (2 : Fin 6) rfl),
    (h.1 c (3 : Fin 6)).trans (final_in m c (3 : Fin 6) rfl), (h.1 c (4 : Fin 6)).trans (final_in m c (4 : Fin 6) rfl)⟩, h.2⟩) (run_arrays m ρ)

end Cert.PagedAttn

end
-- ==== Proof.Softmax.lean ====
/-
The mathematics of the claim, free of any program: a softmax average over a list of tokens, where a token may be listed
more than once, equals the same average regrouped by the places where the tokens are kept, each place shifting its
exponentials by a number of its own and weighting each token by how often it is listed.
-/
module

public import Idealize.ShloMosaic.PureOps.Ideal

@[expose] public section

noncomputable section

namespace Cert.PagedAttn

open Idealize.ShloMosaic

/-! ## Extended reals -/

/-- A finite sum of reals, as an extended real. -/
theorem coe_sum {ι : Type*} (A : Finset ι) (f : ι → ℝ) : ((∑ i ∈ A, f i : ℝ) : EReal) = ∑ i ∈ A, (f i : EReal) := by
  classical
  induction A using Finset.induction_on with
  | empty => simp
  | insert a A ha ih => rw [Finset.sum_insert ha, Finset.sum_insert ha, EReal.coe_add, ih]

/-- A nonnegative real factor distributes over a finite sum, whatever the summands. -/
theorem coe_mul_sum {ι : Type*} (A : Finset ι) {c : ℝ} (hc : 0 ≤ c) (f : ι → EReal) :
    (c : EReal) * ∑ i ∈ A, f i = ∑ i ∈ A, (c : EReal) * f i := by
  classical
  induction A using Finset.induction_on with
  | empty => simp
  | insert a A ha ih =>
    rw [Finset.sum_insert ha, Finset.sum_insert ha, EReal.left_distrib_of_nonneg_of_ne_top (EReal.coe_nonneg.2 hc) (EReal.coe_ne_top c), ih]

/-- A term weighted by a count is that many terms. -/
theorem coe_count_mul (n : ℕ) (y : ℝ) (v : EReal) : ((y * n : ℝ) : EReal) * v = n • ((y : EReal) * v) := by
  rw [EReal.nsmul_eq_mul, mul_comm y, EReal.coe_mul, mul_assoc]; rfl

/-- The greatest of finitely many extended reals is a real, if one of them is not `⊥` and none is `⊤`. -/
theorem fold_max_real {ι : Type*} (A : Finset ι) (f : ι → EReal) (hA : ∃ i ∈ A, f i ≠ ⊥) (hf : ∀ i ∈ A, f i ≠ ⊤) :
    ∃ r : ℝ, A.fold max ⊥ f = r := by
  obtain ⟨i, hi, hb⟩ := hA
  obtain ⟨j, hj, e⟩ := Finset.exists_mem_eq_sup A ⟨i, hi⟩ f
  have hs : A.fold max ⊥ f = A.sup f := rfl
  have h : f i ≤ f j := e ▸ Finset.le_sup hi
  rw [hs, e]
  exact ⟨(f j).toReal, (EReal.coe_toReal (hf j hj) fun h' => hb (le_bot_iff.1 (h' ▸ h))).symm⟩

/-! ## Regrouping -/

section Regroup

variable {S K T : Type*} [Fintype S] [Fintype K] [Fintype T] [DecidableEq S] [DecidableEq K] [DecidableEq T]
variable (V : Finset T) (G : T → S × K)

/-- How often a token is listed. -/
def count (x : S × K) : ℕ := (V.filter fun t => G t = x).card

/-- A sum over the list is the sum over the tokens, each taken as often as it is listed. -/
theorem sum_listed {M : Type*} [AddCommMonoid M] (f : S × K → M) : ∑ t ∈ V, f (G t) = ∑ s, ∑ k, count V G (s, k) • f (s, k) := by
  rw [← Fintype.sum_prod_type' (f := fun s k => count V G (s, k) • f (s, k)), ← Finset.sum_fiberwise V G]
  refine Finset.sum_congr rfl fun x _ => ?_
  rw [Finset.sum_congr rfl fun t ht => congrArg f (Finset.mem_filter.1 ht).2, Finset.sum_const]
  rfl

variable (σ : S × K → ℝ) (v : S × K → EReal) (u : T → EReal) (μ : S → ℝ) (M M' : ℝ)

/-- THE REGROUPING: `μ s` is the shift place `s` uses, `M` the shift of the whole, `M'` the list's own. Any shifts do. -/
theorem softmax_regroup (hV : V.Nonempty) (hu : ∀ t ∈ V, u t = v (G t)) :
    Ideal.div (∑ s, ((Real.exp (μ s - M) : ℝ) : EReal) * ∑ k, ((Real.exp (σ (s, k) - μ s) * count V G (s, k) : ℝ) : EReal) * v (s, k))
        (∑ s, ((Real.exp (μ s - M) : ℝ) : EReal) * ∑ k, ((Real.exp (σ (s, k) - μ s) * count V G (s, k) : ℝ) : EReal))
      = ∑ t, u t * Ideal.div ((if t ∈ V then Real.exp (σ (G t) - M') else 0 : ℝ) : EReal)
          (∑ t, ((if t ∈ V then Real.exp (σ (G t) - M') else 0 : ℝ) : EReal)) := by
  have hshift : ∀ s k, Real.exp (μ s - M) * (Real.exp (σ (s, k) - μ s) * count V G (s, k))
      = Real.exp (σ (s, k) - M) * count V G (s, k) := fun s k => by rw [← mul_assoc, ← Real.exp_add]; congr 2; ring
  -- the two denominators
  have hden : (∑ s, ((Real.exp (μ s - M) : ℝ) : EReal) * ∑ k, ((Real.exp (σ (s, k) - μ s) * count V G (s, k) : ℝ) : EReal))
      = ((∑ t ∈ V, Real.exp (σ (G t) - M) : ℝ) : EReal) := by
    rw [sum_listed V G fun x => Real.exp (σ x - M), coe_sum]
    refine Finset.sum_congr rfl fun s _ => ?_
    rw [← coe_sum, ← EReal.coe_mul, Finset.mul_sum]
    exact congrArg _ (Finset.sum_congr rfl fun k _ => (hshift s k).trans (by rw [nsmul_eq_mul, mul_comm]))
  have hden' : (∑ t, ((if t ∈ V then Real.exp (σ (G t) - M') else 0 : ℝ) : EReal)) = ((∑ t ∈ V, Real.exp (σ (G t) - M') : ℝ) : EReal) := by
    rw [← coe_sum, Finset.sum_ite_mem, Finset.univ_inter]
  have hpos : ∀ N : ℝ, 0 < ∑ t ∈ V, Real.exp (σ (G t) - N) := fun N => Finset.sum_pos (fun _ _ => Real.exp_pos _) hV
  have hscale : (∑ t ∈ V, Real.exp (σ (G t) - M)) = Real.exp (M' - M) * ∑ t ∈ V, Real.exp (σ (G t) - M') := by
    rw [Finset.mul_sum]
    exact Finset.sum_congr rfl fun t _ => by rw [← Real.exp_add]; congr 1; ring
  -- the numerator, token by token
  have hnum : (∑ s, ((Real.exp (μ s - M) : ℝ) : EReal) * ∑ k, ((Real.exp (σ (s, k) - μ s) * count V G (s, k) : ℝ) : EReal) * v (s, k))
      = ∑ t ∈ V, ((Real.exp (σ (G t) - M) : ℝ) : EReal) * v (G t) := by
    rw [sum_listed V G fun x => ((Real.exp (σ x - M) : ℝ) : EReal) * v x]
    refine Finset.sum_congr rfl fun s _ => ?_
    rw [coe_mul_sum _ (Real.exp_pos _).le]
    refine Finset.sum_congr rfl fun k _ => ?_
    rw [← mul_assoc, ← EReal.coe_mul, hshift, coe_count_mul]
  rw [hden, hden', hnum, Ideal.div_coe (hpos M).ne', mul_comm, coe_mul_sum _ (one_div_pos.2 (hpos M)).le]
  rw [← Finset.sum_subset (Finset.subset_univ V) fun t _ ht => by rw [if_neg ht, Ideal.div_coe (hpos M').ne']; simp]
  refine Finset.sum_congr rfl fun t ht => ?_
  rw [if_pos ht, Ideal.div_coe (hpos M').ne', hu t ht, mul_comm (v (G t)), ← mul_assoc, ← EReal.coe_mul, ← EReal.coe_mul]
  congr 2
  have h1 := (hpos M').ne'
  have h2 : Real.exp (σ (G t) - M) = Real.exp (M' - M) * Real.exp (σ (G t) - M') := by rw [← Real.exp_add]; congr 1; ring
  rw [hscale, h2]
  have h3 := (Real.exp_pos (M' - M)).ne'
  field_simp

end Regroup

end Cert.PagedAttn

end
-- ==== Proof.Tokens.lean ====
/-
The tokens a sequence attends to, in the terms of the whole arrays: which of its page table's slots are in use, where
in the pool a slot's rows are kept, and each token's score. The kernel's count of a token is how often it is listed.
-/
module

public import proofs.«01_k».proof.Proof.Softmax
public import proofs.«01_k».proof.Proof.Values
public import Idealize.ShloMosaic.Lib.Pointwise
public import Idealize.ShloMosaic.Lib.Affine

@[expose] public section

noncomputable section

namespace Cert.PagedAttn

open Idealize.ShloMosaic

/-! ## The whole arrays -/

abbrev Queries : Type := (⟨4, ![8, 1, 8, 64]⟩ : Shape).Idx → EReal
abbrev Pool : Type := (⟨4, ![256, 16, 8, 64]⟩ : Shape).Idx → EReal
abbrev Table : Type := (⟨2, ![8, 64]⟩ : Shape).Idx → BitVec 32
abbrev Lengths : Type := (⟨1, ![8]⟩ : Shape).Idx → BitVec 32

/-- Slot `p` of sequence `i`'s line of the page table is in use. -/
abbrev InUse (lens : Lengths) (i : Fin 8) (p : Fin 64) : Prop := IntOp.cmpi .slt (BitVec.ofNat 32 p.val) (lens (ix1 i)) = 1#1

/-- The tokens sequence `i` attends to: a slot in use and a row of its page. -/
def listed (lens : Lengths) (i : Fin 8) : Finset (Fin 64 × Fin 16) := Finset.univ.filter fun t => InUse lens i t.1

/-- The page a slot names. -/
def pageOf (bt : Table) (i : Fin 8) (p : Fin 64) : Fin 256 := ⟨(bt (ix2 i p)).toNat % 256, Nat.mod_lt _ (by decide)⟩

/-- Where a token is kept: the quarter of the pool, and the row of that quarter. -/
def place (bt : Table) (i : Fin 8) (t : Fin 64 × Fin 16) : Fin 4 × Fin 1024 :=
  (⟨(pageOf bt i t.1).val / 64, by omega⟩, ⟨(pageOf bt i t.1).val % 64 * 16 + t.2.val, by omega⟩)

/-- The page and the row of the page of a place. -/
def poolPage (x : Fin 4 × Fin 1024) : Fin 256 := ⟨64 * x.1.val + x.2.val / 16, by omega⟩
def poolRow (x : Fin 4 × Fin 1024) : Fin 16 := ⟨x.2.val % 16, Nat.mod_lt _ (by decide)⟩

theorem poolPage_place (bt : Table) (i : Fin 8) (t : Fin 64 × Fin 16) : poolPage (place bt i t) = pageOf bt i t.1 :=
  Fin.ext (by simp only [poolPage, place]; omega)
theorem poolRow_place (bt : Table) (i : Fin 8) (t : Fin 64 × Fin 16) : poolRow (place bt i t) = t.2 :=
  Fin.ext (by simp only [poolRow, place]; omega)

/-- The score of the token at `x` for head `h` of sequence `i`. -/
def tokenScore (Q : Queries) (K : Pool) (i h : Fin 8) (x : Fin 4 × Fin 1024) : EReal :=
  (∑ d : Fin 64, Q (ix4 i 0 h d) * K (ix4 (poolPage x) (poolRow x) h d)) * Ideal.ofBits .f32 0x3E000000#32

/-- Every slot in use names a page that there is. -/
def PagesExist (bt : Table) (lens : Lengths) : Prop := ∀ i p, InUse lens i p → (bt (ix2 i p)).toNat < 256

/-- Every element is a real number. -/
def Finite {ι : Type} (X : ι → EReal) : Prop := ∀ i, X i ≠ ⊤ ∧ X i ≠ ⊥

/-! ## Scores are real -/

/-- The scale, one eighth, is a real number. -/
theorem scale_real : ∃ r : ℝ, Ideal.ofBits .f32 0x3E000000#32 = r := by
  unfold Ideal.ofBits Ideal.ieee
  dsimp only
  rw [if_neg (by decide), if_neg (by decide)]
  exact ⟨_, rfl⟩

/-- So is the value masked scores take on a device. -/
theorem mask_real : ∃ r : ℝ, Ideal.ofBits .f32 0xF149F2CA#32 = r := by
  unfold Ideal.ofBits Ideal.ieee
  dsimp only
  rw [if_neg (by decide), if_neg (by decide)]
  exact ⟨_, rfl⟩

theorem start_bot : Ideal.ofBits .f32 0xFF800000#32 = (⊥ : EReal) := by
  simp [Ideal.ofBits, Ideal.ieee]

theorem tokenScore_real {Q : Queries} {K : Pool} (hQ : Finite Q) (hK : Finite K) (i h : Fin 8) (x : Fin 4 × Fin 1024) :
    tokenScore Q K i h x = ((tokenScore Q K i h x).toReal : EReal) := by
  obtain ⟨c, hc⟩ := scale_real
  have hq : ∀ d : Fin 64, Q (ix4 i 0 h d) * K (ix4 (poolPage x) (poolRow x) h d)
      = (((Q (ix4 i 0 h d)).toReal * (K (ix4 (poolPage x) (poolRow x) h d)).toReal : ℝ) : EReal) := fun d => by
    rw [EReal.coe_mul, EReal.coe_toReal (hQ _).1 (hQ _).2, EReal.coe_toReal (hK _).1 (hK _).2]
  have : ∃ r : ℝ, tokenScore Q K i h x = r := by
    refine ⟨(∑ d : Fin 64, (Q (ix4 i 0 h d)).toReal * (K (ix4 (poolPage x) (poolRow x) h d)).toReal) * c, ?_⟩
    rw [tokenScore, hc, Finset.sum_congr rfl fun d _ => hq d, ← coe_sum, EReal.coe_mul]
  obtain ⟨r, hr⟩ := this
  rw [hr, EReal.toReal_coe]

/-! ## Counting -/

theorem bit_cases (b : BitVec 1) : b = 0#1 ∨ b = 1#1 := by revert b; decide

/-- A bit, widened and read as a number. -/
theorem sitofp_bit (b : BitVec 1) : FloatOps.sitofp (F := Ideal) .f32 (BitVec.setWidth 32 b) = ((if b = 1#1 then 1 else 0 : ℕ) : EReal) := by
  show (((BitVec.setWidth 32 b).toInt : ℝ) : EReal) = _
  rcases bit_cases b with rfl | rfl <;> simp

/-- A slot not in use matches no page: the kernel gives it the page −1. -/
theorem slot_match (b : BitVec 1) (w : BitVec 32) (s : Fin 4) (l : Fin 64) (hw : b = 1#1 → w.toNat < 256) :
    IntOp.cmpi .eq (Scalar.select b w 4294967295#32) (IntOp.addi (BitVec.ofNat 32 (64 * s.val)) (BitVec.ofNat 32 l.val)) = 1#1
      ↔ b = 1#1 ∧ w.toNat % 256 = 64 * s.val + l.val := by
  have ha : (IntOp.addi (BitVec.ofNat 32 (64 * s.val)) (BitVec.ofNat 32 l.val)).toNat = 64 * s.val + l.val := by
    show (BitVec.ofNat 32 (64 * s.val) + BitVec.ofNat 32 l.val).toNat = _
    rw [BitVec.toNat_add, BitVec.toNat_ofNat, BitVec.toNat_ofNat]; omega
  rw [IntOp.cmpi_eq, ← BitVec.toNat_inj, ha]
  rcases bit_cases b with rfl | rfl
  · show (4294967295#32 : BitVec 32).toNat = _ ↔ _
    rw [show (4294967295#32 : BitVec 32).toNat = 4294967295 from rfl]
    constructor
    · intro h; omega
    · intro h; exact absurd h.1 (by decide)
  · show w.toNat = _ ↔ _
    have := hw rfl
    rw [Nat.mod_eq_of_lt this]
    simp

/-- The kernel's count of the tokens of a page: how often each of them is listed. -/
theorem sum_match {bt : Table} {lens : Lengths} (hp : PagesExist bt lens) (i : Fin 8) (s : Fin 4) (k : Fin 1024) :
    (∑ p : Fin 64, FloatOps.sitofp (F := Ideal) .f32 (BitVec.setWidth 32 (IntOp.cmpi .eq
        (Scalar.select (IntOp.cmpi .slt (BitVec.ofNat 32 p.val) (lens (ix1 i))) (bt (ix2 i p)) 4294967295#32)
        (IntOp.addi (BitVec.ofNat 32 (64 * s.val)) (BitVec.ofNat 32 (k.val / 16))))))
      = (count (listed lens i) (place bt i) (s, k) : EReal) := by
  rw [Finset.sum_congr rfl fun p _ => sitofp_bit _, ← Nat.cast_sum, Finset.sum_boole, Nat.cast_id]
  congr 1
  refine Finset.card_bij (fun p _ => (p, (⟨k.val % 16, Nat.mod_lt _ (by decide)⟩ : Fin 16))) ?_ (fun p _ p' _ e => (Prod.ext_iff.1 e).1) ?_
  · intro p hm
    have h := (slot_match _ _ s ⟨k.val / 16, by omega⟩ (hp i p)).1 (Finset.mem_filter.1 hm).2
    refine Finset.mem_filter.2 ⟨Finset.mem_filter.2 ⟨Finset.mem_univ _, h.1⟩, ?_⟩
    have h2 : (bt (ix2 i p)).toNat % 256 = 64 * s.val + k.val / 16 := h.2
    refine Prod.ext (Fin.ext ?_) (Fin.ext ?_)
    · simp only [place, pageOf]; omega
    · simp only [place, pageOf]; omega
  · rintro ⟨p, r⟩ hm
    obtain ⟨h1, h2⟩ := Finset.mem_filter.1 hm
    have hu : InUse lens i p := (Finset.mem_filter.1 h1).2
    have e1 := congrArg (fun x => x.1.val) h2
    have e2 := congrArg (fun x => x.2.val) h2
    simp only [place, pageOf] at e1 e2
    refine ⟨p, Finset.mem_filter.2 ⟨Finset.mem_univ _, (slot_match _ _ s ⟨k.val / 16, by omega⟩ (hp i p)).2 ⟨hu, ?_⟩⟩, Prod.ext rfl (Fin.ext ?_)⟩
    · show _ = 64 * s.val + k.val / 16
      omega
    · show k.val % 16 = r.val
      omega

end Cert.PagedAttn

end
-- ==== Proof.KernelValue.lean ====
/-
The kernel's values on extended reals, read index by index: what a device writes to its slot and how the four slots of a
column are combined, in the terms of the whole arrays.
-/
module

public import proofs.«01_k».proof.Proof.Tokens

@[expose] public section

noncomputable section

namespace Cert.PagedAttn

open Cert.KernelIdeal Cert.KernelIdeal.Gen

open Idealize.ShloMosaic
open Idealize.ShloMosaic.TcCoe

variable (m : (ℓ : Loc nD τ sig) → Buf (Elt Ideal) ℓ)

/-- The row of the score matrix that belongs to head `h` of sequence `i`. -/
def line (i h : Fin 8) : Fin 64 := ⟨i.val * 8 + h.val, by omega⟩

theorem line_div (i h : Fin 8) (H) : (⟨(line i h).val / 8, H⟩ : Fin 8) = i := Fin.ext (by simp only [line]; omega)
theorem line_mod (i h : Fin 8) (H) : (⟨(line i h).val % 8, H⟩ : Fin 8) = h := Fin.ext (by simp only [line]; omega)

/-! ## A device's part -/

/-- Two heads' numbers, compared as words. -/
theorem head_eq (h x : Fin 8) : IntOp.cmpi .eq (BitVec.ofNat 32 h.val) (BitVec.ofNat 32 x.val) = 1#1 ↔ x = h := by
  rw [IntOp.cmpi_eq, ← BitVec.toNat_inj, BitVec.toNat_ofNat, BitVec.toNat_ofNat, Fin.ext_iff]
  omega

theorem select_head (h x : Fin 8) (a : EReal) :
    Scalar.select (IntOp.cmpi .eq (BitVec.ofNat 32 h.val) (BitVec.ofNat 32 x.val)) a 0 = if x = h then a else 0 := by
  by_cases e : x = h
  · rw [if_pos e, (head_eq h x).2 e]; rfl
  · rw [if_neg e, (bit_cases _).resolve_right fun h' => e ((head_eq h x).1 h')]; rfl

theorem baseWord_eq (c : Dev nD) : baseWord c = BitVec.ofNat 32 (64 * (yc c).val) := by revert c; decide +kernel

/-- A sum over the 512 columns of the pool's lines is one over the heads and their dimensions. -/
theorem sum_quotient (f : Fin 8 → Fin 64 → EReal) :
    ∑ x : Fin 512, f ⟨x.val / 64, by omega⟩ ⟨x.val % 64, by omega⟩ = ∑ a, ∑ d, f a d :=
  ((finProdFinEquiv (m := 8) (n := 64)).symm.sum_comp fun y => f y.1 y.2).trans (Fintype.sum_prod_type _)

/-- The scores, before anything is known of the operands. -/
theorem score_read (c : Dev nD) (i h : Fin 8) (k : Fin 1024) :
    score m c (ix2 (line i h) k)
      = (∑ d : Fin 64, qIn m c (ix4 i 0 h d) * kIn m c (ix4 ⟨k.val / 16, by omega⟩ ⟨k.val % 16, by omega⟩ h d))
          * Ideal.ofBits .f32 0x3E000000#32 := by
  have h3 : (line i h).val % 8 = h.val := by simp only [line]; omega
  pointwise [score, k0_pay5, k0_pay6]
  simp only [line_div, line_mod]
  refine congrArg (· * _) ((sum_quotient fun a d => Scalar.select (IntOp.cmpi .eq (BitVec.ofNat 32 ((line i h).val % 8)) (BitVec.ofNat 32 a.val))
    (qIn m c (ix4 i 0 h d) * kIn m c (ix4 ⟨k.val / 16, by omega⟩ ⟨k.val % 16, by omega⟩ a d)) 0).trans ?_)
  simp only [h3, select_head]
  exact (Finset.sum_eq_single h (fun a _ ha => by simp only [if_neg ha, Finset.sum_const_zero]) fun hn => absurd (Finset.mem_univ _) hn).trans
    (by simp only [if_true])

theorem cnt_read (c : Dev nD) (i : Fin 8) (k : Fin 1024) :
    cnt m c (ix2 i k) = ∑ p : Fin 64, FloatOps.sitofp (F := Ideal) .f32 (BitVec.setWidth 32 (IntOp.cmpi .eq
        (Scalar.select (IntOp.cmpi .slt (BitVec.ofNat 32 p.val) (lenIn m c (ix1 i))) (btIn m c (ix2 i p)) 4294967295#32)
        (IntOp.addi (BitVec.ofNat 32 (64 * (yc c).val)) (BitVec.ofNat 32 (k.val / 16))))) := by
  rw [← baseWord_eq]
  pointwise [cnt, k0_pay1, k0_pay2, k0_pay3]

theorem live_read (c : Dev nD) (i h : Fin 8) (k : Fin 1024) :
    live m c (ix2 (line i h) k) = BitVec.ofBool (decide (0 < cnt m c (ix2 i k))) := by
  pointwise [live, cnt, k0_pay7]
  rw [line_div]
  rfl

/-- A device's maximum, and the term a token adds to its sums. -/
theorem max_read (c : Dev nD) (i h : Fin 8) :
    rowS m c 0 (ix4 0 0 i h) = Finset.univ.fold max (Ideal.ofBits .f32 0xFF800000#32) fun k : Fin 1024 =>
      Scalar.select (live m c (ix2 (line i h) k)) (score m c (ix2 (line i h) k)) (Ideal.ofBits .f32 0xF149F2CA#32) := by
  pointwise [rowS, k0_pay21, k0_pay8]
  rfl

/-- The term token `k` adds to the sums of head `h` of sequence `i`. -/
def term (c : Dev nD) (i h : Fin 8) (k : Fin 1024) : EReal := k0_pay9 (cnt m c) (score m c) (live m c) (ix2 (line i h) k)

theorem term_read (c : Dev nD) (i h : Fin 8) (k : Fin 1024) :
    term m c i h k = Scalar.select (live m c (ix2 (line i h) k))
      (Ideal.exp (score m c (ix2 (line i h) k) - rowS m c 0 (ix4 0 0 i h)) * cnt m c (ix2 i k)) 0 := by
  pointwise [term, rowS, k0_pay21, k0_pay9]
  rw [line_div]
  rfl

theorem sum_read (c : Dev nD) (i h : Fin 8) : rowS m c 1 (ix4 0 0 i h) = ∑ k, term m c i h k := by
  pointwise [rowS, k0_pay22, k0_pay23, k0_pay10]
  rfl

theorem out_read (c : Dev nD) (i h : Fin 8) (d : Fin 64) :
    rowO m c h (ix4 0 0 i d) = ∑ k : Fin 1024, term m c i h k * vIn m c (ix4 ⟨k.val / 16, by omega⟩ ⟨k.val % 16, by omega⟩ h d) := by
  have hacc : rowO m c h (ix4 0 0 i d) = acc m c (ix3 i h d) := by
    fin_cases h <;>
    pointwise [rowO, acc, k0_pay12, k0_pay13, k0_pay14, k0_pay15, k0_pay16, k0_pay17, k0_pay18, k0_pay19, k0_pay20]
  rw [hacc]
  pointwise [acc, vRows, k0_pay11, k0_pay5, k0_pay4]
  simp only [select_head, Finset.sum_ite_eq', Finset.mem_univ, if_true]
  rfl

/-! ## Combining -/

section Combine
variable (mm ll : Fin 4 → Vec Ideal S1x1x8x8 .f32) (oo : Fin 4 → Fin 8 → Vec Ideal S1x1x8x64 .f32)

/-- The greatest of the four maxima. -/
def top (i h : Fin 8) : EReal := max (max (max (mm 0 (ix4 0 0 i h)) (mm 1 (ix4 0 0 i h))) (mm 2 (ix4 0 0 i h))) (mm 3 (ix4 0 0 i h))

theorem scal_read (s : Fin 4) (i h : Fin 8) : scal mm s (ix2 i h) = Ideal.exp (mm s (ix4 0 0 i h) - top mm i h) := by
  fin_cases s <;>
  pointwise [scal, top, k0_pay24, k0_pay25, k0_pay26, k0_pay27, k0_pay28, k0_pay29, k0_pay30, k0_pay31, k0_pay32]

theorem denom_read (i h : Fin 8) : denom mm ll (ix2 i h) = ∑ s, scal mm s (ix2 i h) * ll s (ix4 0 0 i h) := by
  rw [Fin.sum_univ_four]
  pointwise [denom, k0_pay33]
  rfl

theorem outBlk_read (i h : Fin 8) (d : Fin 64) :
    outBlk mm ll oo h (ix4 i 0 0 d) = Ideal.div (∑ s, scal mm s (ix2 i h) * oo s h (ix4 0 0 i d)) (denom mm ll (ix2 i h)) := by
  rw [Fin.sum_univ_four]
  fin_cases h <;>
  pointwise [outBlk, k0_pay34, k0_pay35, k0_pay36, k0_pay37, k0_pay38, k0_pay39, k0_pay40, k0_pay41, k0_pay42, k0_pay43, k0_pay44,
    k0_pay45, k0_pay46, k0_pay47, k0_pay48, k0_pay49, k0_pay50, k0_pay51, k0_pay52, k0_pay53]
  rfl

end Combine

/-! ## In the terms of the whole arrays -/

/-- Device `c` holds the whole queries, page table and lengths, and its column's quarter of the pools. -/
structure Holds (Q : Queries) (K V : Pool) (bt : Table) (lens : Lengths) (c : Dev nD) : Prop where
  q : qIn m c = Q
  k : ∀ (l : Fin 64) (r : Fin 16) (h : Fin 8) (d : Fin 64), kIn m c (ix4 l r h d) = K (ix4 ⟨64 * (yc c).val + l.val, by omega⟩ r h d)
  v : ∀ (l : Fin 64) (r : Fin 16) (h : Fin 8) (d : Fin 64), vIn m c (ix4 l r h d) = V (ix4 ⟨64 * (yc c).val + l.val, by omega⟩ r h d)
  bt : btIn m c = bt
  lens : lenIn m c = lens

section Whole
variable {m}
variable {Q : Queries} {K V : Pool} {bt : Table} {lens : Lengths}

theorem Holds.score {c : Dev nD} (H : Holds m Q K V bt lens c) (i h : Fin 8) (k : Fin 1024) :
    score m c (ix2 (line i h) k) = tokenScore Q K i h (yc c, k) := by
  rw [score_read, tokenScore]
  exact congrArg (· * _) (Finset.sum_congr rfl fun d _ => by rw [H.q, H.k]; rfl)

theorem Holds.cnt {c : Dev nD} (H : Holds m Q K V bt lens c) (hp : PagesExist bt lens) (i : Fin 8) (k : Fin 1024) :
    cnt m c (ix2 i k) = (count (listed lens i) (place bt i) (yc c, k) : EReal) := by
  rw [cnt_read, H.bt, H.lens]
  exact sum_match hp i (yc c) k

/-- The real number a score is. -/
def realScore (Q : Queries) (K : Pool) (i h : Fin 8) (x : Fin 4 × Fin 1024) : ℝ := (tokenScore Q K i h x).toReal

theorem Holds.max_real {c : Dev nD} (H : Holds m Q K V bt lens c) (hQ : Finite Q) (hK : Finite K) (i h : Fin 8) :
    ∃ μ : ℝ, rowS m c 0 (ix4 0 0 i h) = μ := by
  obtain ⟨n, hn⟩ := mask_real
  have hr : ∀ k : Fin 1024, ∃ r : ℝ, Scalar.select (live m c (ix2 (line i h) k)) (PagedAttn.score m c (ix2 (line i h) k))
      (Ideal.ofBits .f32 0xF149F2CA#32) = r := fun k => by
    rcases bit_cases (live m c (ix2 (line i h) k)) with e | e
    · exact ⟨n, by rw [e, hn]; rfl⟩
    · exact ⟨_, by rw [e, H.score]; exact tokenScore_real hQ hK i h _⟩
  rw [max_read, start_bot]
  exact fold_max_real _ _ ⟨0, Finset.mem_univ _, by obtain ⟨r, e⟩ := hr 0; rw [e]; exact EReal.coe_ne_bot r⟩
    fun k _ => by obtain ⟨r, e⟩ := hr k; rw [e]; exact EReal.coe_ne_top r

theorem Holds.term {c : Dev nD} (H : Holds m Q K V bt lens c) (hp : PagesExist bt lens) (hQ : Finite Q) (hK : Finite K) (i h : Fin 8)
    {μ : ℝ} (hμ : rowS m c 0 (ix4 0 0 i h) = μ) (k : Fin 1024) :
    term m c i h k = ((Real.exp (realScore Q K i h (yc c, k) - μ) * count (listed lens i) (place bt i) (yc c, k) : ℝ) : EReal) := by
  rw [term_read, live_read, H.cnt hp, hμ, H.score, tokenScore_real hQ hK, ← EReal.coe_sub, Ideal.exp_coe]
  by_cases h0 : count (listed lens i) (place bt i) (yc c, k) = 0
  · rw [h0]
    simp [Scalar.select]
  · have : (0 : EReal) < (count (listed lens i) (place bt i) (yc c, k) : EReal) := by
      exact_mod_cast Nat.pos_of_ne_zero h0
    rw [decide_eq_true this, EReal.coe_mul]
    rfl

/-- THE KERNEL'S RESULT: the average regrouped by the devices of a column, each shifting by its own maximum. -/
theorem outAt_whole (H : ∀ c, Holds m Q K V bt lens c) (hp : PagesExist bt lens) (hQ : Finite Q) (hK : Finite K) (c : Dev nD) (i h : Fin 8)
    (d : Fin 64) : ∃ (μ : Fin 4 → ℝ) (M : ℝ), outAt m c (ix4 i 0 h d)
      = Ideal.div
          (∑ s, ((Real.exp (μ s - M) : ℝ) : EReal) * ∑ k,
            ((Real.exp (realScore Q K i h (s, k) - μ s) * count (listed lens i) (place bt i) (s, k) : ℝ) : EReal)
              * V (ix4 (poolPage (s, k)) (poolRow (s, k)) h d))
          (∑ s, ((Real.exp (μ s - M) : ℝ) : EReal) * ∑ k,
            ((Real.exp (realScore Q K i h (s, k) - μ s) * count (listed lens i) (place bt i) (s, k) : ℝ) : EReal)) := by
  choose μ hμ using fun s => (H (col c s)).max_real hQ hK i h
  refine ⟨μ, max (max (max (μ 0) (μ 1)) (μ 2)) (μ 3), ?_⟩
  have htop : top (colM m c) i h = ((max (max (max (μ 0) (μ 1)) (μ 2)) (μ 3) : ℝ) : EReal) := by
    simp only [top, colM, hμ, (EReal.coe_strictMono.monotone).map_max]
  have hscal : ∀ s, scal (colM m c) s (ix2 i h) = ((Real.exp (μ s - max (max (max (μ 0) (μ 1)) (μ 2)) (μ 3)) : ℝ) : EReal) := fun s => by
    rw [scal_read, htop, colM, hμ, ← EReal.coe_sub, Ideal.exp_coe]
  have hterm := fun s k => (H (col c s)).term hp hQ hK i h (hμ s) k
  simp only [yc_col] at hterm
  have hout : outAt m c (ix4 i 0 h d) = outBlk (colM m c) (colL m c) (colO m c) h (ix4 i 0 0 d) :=
    congrArg (outBlk (colM m c) (colL m c) (colO m c) h) (funext fun a => by fin_cases a <;> rfl)
  rw [hout, outBlk_read, denom_read]
  refine congrArg₂ Ideal.div (Finset.sum_congr rfl fun s _ => ?_) (Finset.sum_congr rfl fun s _ => ?_)
  · rw [hscal, colO, out_read]
    refine congrArg (_ * ·) (Finset.sum_congr rfl fun k _ => ?_)
    rw [hterm, (H _).v]
    simp only [yc_col]
    rfl
  · rw [hscal, colL, sum_read]
    exact congrArg (_ * ·) (Finset.sum_congr rfl fun k _ => hterm s k)

end Whole

end Cert.PagedAttn

end
-- ==== Proof.RefValue.lean ====
/-
The reference's value on extended reals, read index by index: the softmax average over the tokens that a sequence's line
of the page table lists.
-/
module

public import proofs.«01_k».proof.Proof.Tokens
public import proofs.«01_k».proof.Proof.Gen.ReferenceIdeal.Run

@[expose] public section

noncomputable section

namespace Cert.PagedAttn.Reference

open Cert.ReferenceIdeal Cert.ReferenceIdeal.Gen

open Idealize.ShloMosaic
open Idealize.ShloMosaic.TcCoe

variable (Q : Queries) (K V : Pool) (bt : Table) (lens : Lengths)

/-! ## The reference's steps, named -/

/-- The page table's entries as the look-up takes them: a negative entry would count from the end. -/
def entries : IVec S8x64x1 32 :=
  broadcastInDim S8x64x1 ![0, 1] bcast_S8x64_S8x64x1_0_1 (select (cmpi .slt bt (broadcastInDim S8x64 ![] bcast_S_S8x64 (constantI S_ 32 0#32)))
    (addi bt (broadcastInDim S8x64 ![] bcast_S_S8x64 (constantI S_ 32 256#32))) bt)

/-- A pool's rows, slot by slot. -/
def slots (X : Pool) : FVec Ideal S8x64x16x8x64 .f32 := Host.gather gather_S256x16x8x64_S8x64x1_S8x64x16x8x64_234_0_n_n_0_2_116864 X (entries bt)

/-- The scores, −∞ at the slots not in use. -/
def scores : FVec Ideal S8x8x1x64x16 .f32 :=
  select (broadcastInDim S8x8x1x64x16 ![0, 1, 2, 3, 4] bcast_S8x1x1x64x1_S8x8x1x64x16_0_1_2_3_4 (broadcastInDim S8x1x1x64x1 ![0, 3]
      bcast_S8x64_S8x1x1x64x1_0_3 (cmpi .slt (broadcastInDim S8x64 ![0, 1] bcast_S1x64_S8x64_0_1 (broadcastInDim S1x64 ![1] bcast_S64_S1x64_1
        (iotaInDim S64 32 0))) (broadcastInDim S8x64 ![0, 1] bcast_S8x1_S8x64_0_1 (broadcastInDim S8x1 ![0] bcast_S8_S8x1_0 lens)))))
    (mulf (Host.dotGeneral (F := Ideal) (φ₁ := .f32) (φ₂ := .f32) dot_S8x1x8x64_S8x64x16x8x64_S8x8x1x64x16_3_4_1_12_02_03 none Q (slots bt K))
      (broadcastInDim S8x8x1x64x16 ![] bcast_S_S8x8x1x64x16 (constant S_ .f32 0x3E000000#32)))
    (broadcastInDim S8x8x1x64x16 ![] bcast_S_S8x8x1x64x16 (id (constant S_ .f32 0xFF800000#32)))

def greatest : FVec Ideal S8x8x1 .f32 :=
  Host.reduce FloatOps.maximumf (scores Q K bt lens) (constant S_ .f32 0xFF800000#32) reducesTo_S8x8x1x64x16_S8x8x1_d3_4 h_S_

def spread (x : FVec Ideal S8x8x1 .f32) : FVec Ideal S8x8x1x64x16 .f32 :=
  broadcastInDim S8x8x1x64x16 ![0, 1, 2, 3, 4] bcast_S8x8x1x1x1_S8x8x1x64x16_0_1_2_3_4
    (broadcastInDim S8x8x1x1x1 ![0, 1, 2] bcast_S8x8x1_S8x8x1x1x1_0_1_2 x)

def weights : FVec Ideal S8x8x1x64x16 .f32 := Host.exp (subf (scores Q K bt lens) (spread (greatest Q K bt lens)))

def total : FVec Ideal S8x8x1 .f32 :=
  Host.reduceAdd (weights Q K bt lens) (constant S_ .f32 0x00000000#32) reducesTo_S8x8x1x64x16_S8x8x1_d3_4 h_S_

def result : FVec Ideal S8x1x8x64 .f32 :=
  transpose S8x1x8x64 [0, 3, 1, 2] (Host.dotGeneral (F := Ideal) (φ₁ := .f32) (φ₂ := .f32) dot_S8x64x16x8x64_S8x8x1x64x16_S8x8x64x1_12_34_4_2_03_01 none (slots bt V)
    (Host.divf (weights Q K bt lens) (spread (total Q K bt lens)))) transposes_S8x8x64x1_S8x1x8x64_0_3_1_2

theorem result_eq (m : (ℓ : Loc nD τ sig) → Buf (Elt Ideal) ℓ) (c : Dev nD) :
    Cert.ReferenceIdeal.Value.res_out0 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_out0 Cert.ReferenceIdeal.Value.res_main_v35 result total weights spread greatest scores slots entries
  rfl

/-! ## Each step at an index -/

theorem slots_read (X : Pool) (i : Fin 8) (p : Fin 64) (r : Fin 16) (h : Fin 8) (d : Fin 64) (hp : (bt (ix2 i p)).toNat < 256) :
    slots bt X (ix5 i p r h d) = X (ix4 (pageOf bt i p) r h d) := by
  have he : entries bt (ix3 i p 0) = bt (ix2 i p) := by
    have hs : IntOp.cmpi .slt (bt (ix2 i p)) 0#32 = 0#1 := (bit_cases _).resolve_right fun h' => by
      rw [IntOp.cmpi_slt, BitVec.toInt_eq_toNat_of_lt (by omega)] at h'
      have h0 : (0#32 : BitVec 32).toInt = 0 := rfl
      omega
    pointwise [entries]
    rw [hs]
    rfl
  have hs : ∀ j : S8x64x1.Idx, j = ix3 i p 0 → min (entries bt j).toInt.toNat 255 = (bt (ix2 i p)).toNat % 256 := by
    rintro j rfl
    rw [he, BitVec.toInt_eq_toNat_of_lt (by omega), Int.toNat_natCast]
    omega
  unfold slots Host.gather
  refine congrArg X (funext fun a => Fin.ext ?_)
  match a with
  | ⟨0, _⟩ => exact hs _ (funext fun b => by fin_cases b <;> rfl)
  | ⟨1, _⟩ => exact (Nat.zero_add _).trans rfl
  | ⟨2, _⟩ => exact (Nat.zero_add _).trans rfl
  | ⟨3, _⟩ => exact (Nat.zero_add _).trans rfl

theorem scores_read (i h : Fin 8) (p : Fin 64) (r : Fin 16) :
    scores Q K bt lens (ix5 i h 0 p r) = Scalar.select (IntOp.cmpi .slt (BitVec.ofNat 32 p.val) (lens (ix1 i)))
      ((∑ d : Fin 64, Q (ix4 i 0 h d) * slots bt K (ix5 i p r h d)) * Ideal.ofBits .f32 0x3E000000#32) (Ideal.ofBits .f32 0xFF800000#32) := by
  pointwise [scores]
  rfl

/-- The indices one head's scores are reduced over. -/
theorem fiber (H : S8x8x1x64x16.ReducesTo [3, 4] S8x8x1) (i h : Fin 8) (x : S8x8x1x64x16.Idx) :
    H.drop x = ix3 i h 0 ↔ ∃ t : Fin 64 × Fin 16, ix5 i h 0 t.1 t.2 = x := by
  constructor
  · intro e
    refine ⟨(x 3, x 4), funext fun a => ?_⟩
    fin_cases a
    · exact (congrFun e 0).symm
    · exact (congrFun e 1).symm
    · exact (congrFun e 2).symm
    · rfl
    · rfl
  · rintro ⟨t, rfl⟩
    funext b
    fin_cases b <;> rfl

theorem inFiber_injective (i h : Fin 8) : Function.Injective fun t : Fin 64 × Fin 16 => (ix5 i h 0 t.1 t.2 : S8x8x1x64x16.Idx) :=
  fun _ _ e => Prod.ext (congrFun e 3) (congrFun e 4)

theorem greatest_read (i h : Fin 8) :
    greatest Q K bt lens (ix3 i h 0) = Finset.univ.fold max (Ideal.ofBits .f32 0xFF800000#32)
      fun t : Fin 64 × Fin 16 => scores Q K bt lens (ix5 i h 0 t.1 t.2) :=
  (Host.reduce_eq_fold ..).trans (Finset.fold_filter_eq_fold_of_fiber max _ _ (inFiber_injective i h) (fiber _ i h) _ _)

theorem total_read (i h : Fin 8) :
    total Q K bt lens (ix3 i h 0) = ∑ t : Fin 64 × Fin 16, weights Q K bt lens (ix5 i h 0 t.1 t.2) := by
  refine (congrArg₂ (· + ·) Ideal.ofBits_zero_f32
    (Finset.sum_filter_eq_sum_of_fiber _ _ (inFiber_injective i h) (fiber reducesTo_S8x8x1x64x16_S8x8x1_d3_4 i h) _)).trans (zero_add _)

theorem weights_read (i h : Fin 8) (p : Fin 64) (r : Fin 16) :
    weights Q K bt lens (ix5 i h 0 p r) = Ideal.exp (scores Q K bt lens (ix5 i h 0 p r) - greatest Q K bt lens (ix3 i h 0)) := by
  pointwise [weights, spread]

theorem result_read (i h : Fin 8) (d : Fin 64) :
    result Q K V bt lens (ix4 i 0 h d) = ∑ t : Fin 64 × Fin 16,
      slots bt V (ix5 i t.1 t.2 h d) * Ideal.div (weights Q K bt lens (ix5 i h 0 t.1 t.2)) (total Q K bt lens (ix3 i h 0)) := by
  rw [Fintype.sum_prod_type]
  pointwise [result, spread]

/-! ## In the terms of the tokens -/

section Whole
variable {Q K bt lens}

theorem listed_iff {i : Fin 8} {t : Fin 64 × Fin 16} : t ∈ listed lens i ↔ InUse lens i t.1 := by simp [listed]

theorem slots_listed (hp : PagesExist bt lens) (X : Pool) {i : Fin 8} {t : Fin 64 × Fin 16} (ht : t ∈ listed lens i) (h : Fin 8) (d : Fin 64) :
    slots bt X (ix5 i t.1 t.2 h d) = X (ix4 (poolPage (place bt i t)) (poolRow (place bt i t)) h d) := by
  rw [slots_read bt X i t.1 t.2 h d (hp i t.1 (listed_iff.1 ht)), poolPage_place, poolRow_place]

theorem scores_listed (hp : PagesExist bt lens) {i : Fin 8} {t : Fin 64 × Fin 16} (ht : t ∈ listed lens i) (h : Fin 8) :
    scores Q K bt lens (ix5 i h 0 t.1 t.2) = tokenScore Q K i h (place bt i t) := by
  rw [scores_read, listed_iff.1 ht, tokenScore]
  exact congrArg (· * _) (Finset.sum_congr rfl fun d _ => by rw [slots_listed hp K ht])

theorem scores_unlisted {i : Fin 8} {t : Fin 64 × Fin 16} (ht : t ∉ listed lens i) (h : Fin 8) :
    scores Q K bt lens (ix5 i h 0 t.1 t.2) = ⊥ := by
  rw [scores_read, (bit_cases _).resolve_right fun h' => ht (listed_iff.2 h'), start_bot]
  rfl

/-- THE REFERENCE'S RESULT, `M` the greatest score. -/
theorem result_whole (hp : PagesExist bt lens) (hQ : Finite Q) (hK : Finite K) {i : Fin 8} (hl : (listed lens i).Nonempty) (h : Fin 8) (d : Fin 64) :
    ∃ M : ℝ, result Q K V bt lens (ix4 i 0 h d)
      = ∑ t : Fin 64 × Fin 16, slots bt V (ix5 i t.1 t.2 h d) * Ideal.div
          ((if t ∈ listed lens i then Real.exp ((tokenScore Q K i h (place bt i t)).toReal - M) else 0 : ℝ) : EReal)
          (∑ t : Fin 64 × Fin 16, ((if t ∈ listed lens i then Real.exp ((tokenScore Q K i h (place bt i t)).toReal - M) else 0 : ℝ) : EReal)) := by
  have hmax : ∃ M : ℝ, greatest Q K bt lens (ix3 i h 0) = M := by
    rw [greatest_read, start_bot]
    refine fold_max_real _ _ ?_ fun t _ => ?_
    · obtain ⟨t, ht⟩ := hl
      exact ⟨t, Finset.mem_univ _, by rw [scores_listed hp ht, tokenScore_real hQ hK]; exact EReal.coe_ne_bot _⟩
    · by_cases ht : t ∈ listed lens i
      · rw [scores_listed hp ht, tokenScore_real hQ hK]; exact EReal.coe_ne_top _
      · rw [scores_unlisted ht]; exact bot_ne_top
  obtain ⟨M, hM⟩ := hmax
  have hw : ∀ t : Fin 64 × Fin 16, weights Q K bt lens (ix5 i h 0 t.1 t.2)
      = ((if t ∈ listed lens i then Real.exp ((tokenScore Q K i h (place bt i t)).toReal - M) else 0 : ℝ) : EReal) := fun t => by
    rw [weights_read, hM]
    by_cases ht : t ∈ listed lens i
    · rw [scores_listed hp ht, tokenScore_real hQ hK, ← EReal.coe_sub, Ideal.exp_coe, if_pos ht, EReal.toReal_coe]
    · rw [scores_unlisted ht, EReal.bot_sub, if_neg ht]; rfl
  exact ⟨M, (result_read ..).trans (by rw [total_read]; simp only [hw])⟩

end Whole

end Cert.PagedAttn.Reference

end
-- ==== Proof.Precondition.lean ====
/-
What `well_posed` says of one device's blocks, read back from its one bit: the queries and the keys are real numbers,
every slot in use names a page that there is, and every sequence has a slot in use.
-/
module

public import proofs.«01_k».proof.Pre_well_posed_KernelIdeal
public import proofs.«01_k».proof.Proof.Tokens
public import Idealize.ShloMosaic.Lib.Pointwise
public import Idealize.ShloMosaic.Lib.ReduceAll

@[expose] public section

noncomputable section

namespace Cert.PagedAttn.Precondition

open Idealize.ShloMosaic Cert.Pre_well_posed_KernelIdeal

instance one_index : Subsingleton S_.Idx := ⟨fun a b => funext fun k => k.elim0⟩

/-- The bound the absolute values are compared with is infinity. -/
theorem bound_top : Ideal.ofBits .f32 0x7F800000#32 = (⊤ : EReal) := by simp [Ideal.ofBits, Ideal.ieee]

/-- An absolute value below infinity is a real number's. -/
theorem real_of_abs {x : EReal} (h : FloatOps.cmpf (F := Ideal) (φ := .f32) .olt (max x (-x) : EReal) (⊤ : EReal) = 1#1) : x ≠ ⊤ ∧ x ≠ ⊥ := by
  have h' : max x (-x) < ⊤ := by
    by_contra hn
    have h0 : BitVec.ofBool (decide (max x (-x) < ⊤)) = 1#1 := h
    rw [decide_eq_false hn] at h0
    exact absurd h0 (by decide)
  constructor
  · rintro rfl; simp at h'
  · rintro rfl; simp at h'

variable [Facts]
variable {q : FVec Ideal S8x1x8x64 .f32} {k v : FVec Ideal S64x16x8x64 .f32} {t : IVec S8x64 32} {l : IVec S8 32}

/-- The four parts of the bit. -/
theorem parts (e : fn (F := Ideal) q k v t l = fun _ => 1#1) :
    ((∀ i, cmpf .olt (Host.absf q) (broadcastInDim S8x1x8x64 ![] Facts.bcast_S_S8x1x8x64 (constant (F := Ideal) S_ .f32 0x7F800000#32)) i = 1#1)
      ∧ (∀ i, cmpf .olt (Host.absf k) (broadcastInDim S64x16x8x64 ![] Facts.bcast_S_S64x16x8x64 (constant (F := Ideal) S_ .f32 0x7F800000#32)) i = 1#1))
    ∧ (∀ i, ori (noti (cmpi .slt (broadcastInDim S8x64 ![0, 1] Facts.bcast_S1x64_S8x64_0_1 (broadcastInDim S1x64 ![1] Facts.bcast_S64_S1x64_1 (iotaInDim S64 32 0)))
          (broadcastInDim S8x64 ![0, 1] Facts.bcast_S8x1_S8x64_0_1 (broadcastInDim S8x1 ![0] Facts.bcast_S8_S8x1_0 l))))
        (andi (cmpi .sge t (broadcastInDim S8x64 ![] Facts.bcast_S_S8x64 (constantI S_ 32 0#32)))
          (cmpi .slt t (broadcastInDim S8x64 ![] Facts.bcast_S_S8x64 (constantI S_ 32 256#32)))) i = 1#1)
    ∧ (∀ i, cmpi .sge l (broadcastInDim S8 ![] Facts.bcast_S_S8 (constantI S_ 32 1#32)) i = 1#1) := by
  obtain ⟨h1, h2⟩ := IntOp.andi_eq_one.1 (congrFun e ix0)
  obtain ⟨hq, hk⟩ := IntOp.andi_eq_one.1 h1
  obtain ⟨ht, hl⟩ := IntOp.andi_eq_one.1 h2
  exact ⟨⟨fun i => Host.reduce_andi_all _ _ _ _ _ hq i, fun i => Host.reduce_andi_all _ _ _ _ _ hk i⟩,
    fun i => Host.reduce_andi_all _ _ _ _ _ ht i, fun i => Host.reduce_andi_all _ _ _ _ _ hl i⟩

theorem queries (e : fn (F := Ideal) q k v t l = fun _ => 1#1) : Finite (fun i => q i) := fun i =>
  real_of_abs ((by rw [← bound_top]; rfl : _ = _).trans ((parts e).1.1 i))

theorem keys (e : fn (F := Ideal) q k v t l = fun _ => 1#1) : Finite (fun i => k i) := fun i =>
  real_of_abs ((by rw [← bound_top]; rfl : _ = _).trans ((parts e).1.2 i))

theorem pages (e : fn (F := Ideal) q k v t l = fun _ => 1#1) : PagesExist t l := fun i p hu => by
  have h := (parts e).2.1 (ix2 i p)
  pointwise at h
  rw [hu] at h
  obtain h | h := IntOp.ori_eq_one.1 h
  · exact absurd h (by decide)
  · obtain ⟨h0, h1⟩ := IntOp.andi_eq_one.1 h
    have h0 : (0#32).toInt ≤ _ := IntOp.cmpi_sge.1 h0
    have h1 := IntOp.cmpi_slt.1 h1
    have e0 : (0#32).toInt = 0 := by decide
    have e1 : (256#32).toInt = 256 := by decide
    have hc := BitVec.toInt_eq_toNat_cond (t (ix2 i p))
    have := (t (ix2 i p)).isLt
    split at hc <;> omega

/-- Every sequence has at least one slot in use: the first. -/
theorem nonempty (e : fn (F := Ideal) q k v t l = fun _ => 1#1) (i : Fin 8) : (listed l i).Nonempty := by
  have h := (parts e).2.2 (ix1 i)
  have h' : (1#32).toInt ≤ (l (ix1 i)).toInt := IntOp.cmpi_sge.1 h
  refine ⟨(0, 0), Finset.mem_filter.2 ⟨Finset.mem_univ _, IntOp.cmpi_slt.2 ?_⟩⟩
  have h1 : (1#32).toInt = 1 := by decide
  show (0#32).toInt < _
  have h0 : (0#32).toInt = 0 := by decide
  omega

end Cert.PagedAttn.Precondition

end
-- ==== Proof.Algebra.lean ====
/-
The two programs meet: on device blocks cut from the reference's arrays, under the precondition, the kernel's result on
every device is the reference's.
-/
module

public import proofs.«01_k».proof.Proof.KernelValue
public import proofs.«01_k».proof.Proof.RefValue
public import proofs.«01_k».proof.Proof.Precondition
public import proofs.«01_k».proof.Proof.Frames
public import Idealize.ShloMosaic.Lib.Layout

@[expose] public section

noncomputable section

namespace Cert.PagedAttn

open Cert.KernelIdeal Cert.KernelIdeal.Gen

open Idealize.ShloMosaic
open Idealize.ShloMosaic.TcCoe

/-! ## A device's quarter of a pool -/

/-- The number of the block that the mesh gives device `c` along the pages is its `y` coordinate; the other axes are whole. -/
theorem block_page (c : Dev nD) : ((Layout.meshBlock [2, 4, 4] ![[1], [], [], []] c : (b : Fin 4) → _) 0).val = (yc c).val := by
  revert c; decide +kernel

/-- The device's quarter of a pool. -/
abbrev quarter (c : Dev nD) (X : Pool) : (⟨4, ![64, 16, 8, 64]⟩ : Shape).Idx → EReal :=
  Layout.blockN ⟨4, ![64, 16, 8, 64]⟩ ⟨4, ![256, 16, 8, 64]⟩ (Layout.meshBlock [2, 4, 4] ![[1], [], [], []] c) X

theorem quarter_read (c : Dev nD) (X : Pool) (l : Fin 64) (r : Fin 16) (h : Fin 8) (d : Fin 64) :
    quarter c X (ix4 l r h d) = X (ix4 ⟨64 * (yc c).val + l.val, by omega⟩ r h d) := by
  refine congrArg X (funext fun b => Fin.ext ?_)
  fin_cases b
  · show ((Layout.meshBlock [2, 4, 4] ![[1], [], [], []] c : (b : Fin 4) → _) 0).val * 64 + l.val = 64 * (yc c).val + l.val
    rw [block_page]; omega
  · show 0 * 16 + r.val = r.val
    omega
  · show 0 * 8 + h.val = h.val
    omega
  · show 0 * 64 + d.val = d.val
    omega

/-- A pool whose every quarter is finite is finite. -/
theorem finite_pool {X : Pool} (H : ∀ c : Dev nD, Finite (quarter c X)) : Finite X := fun i => by
  obtain ⟨P, r, h, d, rfl⟩ : ∃ (P : Fin 256) (r : Fin 16) (h : Fin 8) (d : Fin 64), i = ix4 P r h d := ⟨i 0, i 1, i 2, i 3, eq_ix4 i⟩
  have hs : (⟨64 * (yc (col 0 ⟨P.val / 64, by omega⟩)).val + (⟨P.val % 64, by omega⟩ : Fin 64).val, by omega⟩ : Fin 256) = P :=
    Fin.ext (by
      have e : (yc (col 0 ⟨P.val / 64, by omega⟩)).val = P.val / 64 := congrArg Fin.val (yc_col 0 _)
      show 64 * (yc (col 0 ⟨P.val / 64, _⟩)).val + P.val % 64 = P.val
      omega)
  have := H (col 0 ⟨P.val / 64, by omega⟩) (ix4 ⟨P.val % 64, by omega⟩ r h d)
  rw [quarter_read, hs] at this
  exact this

/-! ## The results agree -/

variable {m : (ℓ : Loc nD τ sig) → Buf (Elt Ideal) ℓ} {Q : Queries} {K V : Pool} {bt : Table} {lens : Lengths}

theorem outAt_eq (H : ∀ c, Holds m Q K V bt lens c) (hp : PagesExist bt lens) (hQ : Finite Q) (hK : Finite K)
    (hl : ∀ i, (listed lens i).Nonempty) (c : Dev nD) : outAt m c = Reference.result Q K V bt lens := funext fun j => by
  obtain ⟨i, h, d, rfl⟩ : ∃ (i h : Fin 8) (d : Fin 64), j = ix4 i 0 h d := ⟨j 0, j 2, j 3, (eq_ix4 j).trans
    (congrArg (fun b : Fin 1 => ix4 (j 0 : Fin 8) b (j 2 : Fin 8) (j 3 : Fin 64)) (Subsingleton.elim (α := Fin 1) (j 1) 0))⟩
  obtain ⟨μ, M, hk⟩ := outAt_whole (V := V) H hp hQ hK c i h d
  obtain ⟨M', hr⟩ := Reference.result_whole (V := V) hp hQ hK (hl i) h d
  rw [hk, hr]
  exact softmax_regroup (listed lens i) (place bt i) (realScore Q K i h) (fun x => V (ix4 (poolPage x) (poolRow x) h d))
    (fun t => Reference.slots bt V (ix5 i t.1 t.2 h d)) μ M M' (hl i) (fun t ht => Reference.slots_listed hp V ht h d)

/-- What a device reads is its block of the arguments. -/
theorem holds_of (c : Dev nD) (h0 : m ((c.tc : Thread nD τ).loc main_arg0) = Q) (h1 : m ((c.tc : Thread nD τ).loc main_arg1) = quarter c K)
    (h2 : m ((c.tc : Thread nD τ).loc main_arg2) = quarter c V) (h3 : m ((c.tc : Thread nD τ).loc main_arg3) = bt)
    (h4 : m ((c.tc : Thread nD τ).loc main_arg4) = lens) : Holds m Q K V bt lens c where
  q := (blk_q _).trans h0
  k := fun l r h d => (congrFun ((blk_k _).trans h1) (ix4 l r h d)).trans (quarter_read c K l r h d)
  v := fun l r h d => (congrFun ((blk_v _).trans h2) (ix4 l r h d)).trans (quarter_read c V l r h d)
  bt := (blk_bt _).trans h3
  lens := (blk_len _).trans h4

end Cert.PagedAttn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem
open Cert.Kernel.Gen Cert.KernelIdeal.Gen Cert.ReferenceIdeal.Gen

/-- The two programs have one text: the bodies their calls name are the same. -/
theorem same_bodies : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl
theorem same_defs : Cert.Kernel.defs (F := Bits) = Cert.KernelIdeal.defs (F := Bits) := by
  unfold Cert.Kernel.defs Cert.KernelIdeal.defs
  rw [same_bodies]
  rfl

theorem frame_kernel : Cert.quiescent_Kernel := fun m ρ _ => by
  rw [same_defs]
  exact (θ_run Cert.KernelIdeal.defs _ _).mono (fun _ h => ⟨fun c => (h.1 c).2, h.2⟩) (Cert.PagedAttn.run_main (F := Bits) m ρ)

theorem frame_ideal : Cert.quiescent_KernelIdeal := fun m ρ _ =>
  (θ_run Cert.KernelIdeal.defs _ _).mono (fun _ h => ⟨fun c => (h.1 c).2, h.2⟩) (Cert.PagedAttn.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The precondition's side conditions -/

theorem pre_kernel : Cert.Pre_well_posed_KernelIdeal.Facts where
  bcast_S64_S1x64_1 := by decide
  bcast_S8_S8x1_0 := by decide
  bcast_S1x64_S8x64_0_1 := by decide
  bcast_S8x1_S8x64_0_1 := by decide
  bcast_S_S8x64 := by decide
  reducesTo_S8x64_S_d0_1 := by decide
  h_S_ := by decide
  bcast_S_S8x1x8x64 := by decide
  reducesTo_S8x1x8x64_S_d0_1_2_3 := by decide
  bcast_S_S64x16x8x64 := by decide
  reducesTo_S64x16x8x64_S_d0_1_2_3 := by decide
  bcast_S_S8 := by decide
  reducesTo_S8_S_d0 := by decide

theorem pre_reference : Cert.Pre_well_posed_ReferenceIdeal.Facts where
  bcast_S64_S1x64_1 := by decide
  bcast_S8_S8x1_0 := by decide
  bcast_S1x64_S8x64_0_1 := by decide
  bcast_S8x1_S8x64_0_1 := by decide
  bcast_S_S8x64 := by decide
  reducesTo_S8x64_S_d0_1 := by decide
  h_S_ := by decide
  bcast_S_S8x1x8x64 := by decide
  reducesTo_S8x1x8x64_S_d0_1_2_3 := by decide
  bcast_S_S256x16x8x64 := by decide
  reducesTo_S256x16x8x64_S_d0_1_2_3 := by decide
  bcast_S_S8 := by decide
  reducesTo_S8_S_d0 := by decide

/-! ## The value -/

theorem value : Cert.algebraic_KernelIdeal_ReferenceIdeal_pre_well_posed_KernelIdeal (hPre_well_posed_KernelIdeal := pre_kernel) :=
  fun m ρ m' ρ' hpre hargs => by
  letI := pre_kernel
  have hp := Cert.PagedAttn.Precondition.pages (hpre 0)
  have hQ := Cert.PagedAttn.Precondition.queries (hpre 0)
  have hl := Cert.PagedAttn.Precondition.nonempty (hpre 0)
  have hK := Cert.PagedAttn.finite_pool fun c => (hargs c).2.1 ▸ Cert.PagedAttn.Precondition.keys (hpre c)
  rw [(hargs 0).2.2.2.1, (hargs 0).2.2.2.2] at hp
  rw [(hargs 0).1] at hQ
  rw [(hargs 0).2.2.2.2] at hl
  have H : ∀ c, Cert.PagedAttn.Holds m _ _ _ _ _ c := fun c =>
    Cert.PagedAttn.holds_of c (hargs c).1 (hargs c).2.1 (hargs c).2.2.1 (hargs c).2.2.2.1 (hargs c).2.2.2.2
  refine ⟨Cert.ReferenceIdeal.Value.res_out0 m' 0, ?_, ?_⟩
  · refine (θ_run Cert.KernelIdeal.defs _ _).mono (fun _ h c => ⟨(h.1 c).1.trans ?_, (h.1 c).2⟩) (Cert.PagedAttn.run_main (F := Ideal) m ρ)
    exact (Cert.PagedAttn.outAt_eq H hp hQ hK hl c).trans (Cert.PagedAttn.Reference.result_eq m' 0).symm
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts, pre_kernel, pre_reference,
  frame_kernel, frame_ideal, fun m ρ _ => frame_ideal m ρ trivial, frame_reference, fun m ρ _ => frame_reference m ρ trivial, trivial, value⟩

end Cert.Proof

end
